-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_pool_finite [hPre_pool_finite : Cert.Pre_pool_finite.Facts] (m : (ℓ : Loc Cert.MergeIdeal.nD Cert.MergeIdeal.τ Cert.MergeIdeal.sig) → Buf (Elt Ideal) ℓ) : Prop :=
  ∀ c : Dev Cert.MergeIdeal.nD,
    (Cert.Pre_pool_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_pool_finite [hPre_pool_finite : Cert.Pre_pool_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_pool_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))) = (fun _ => 1#1)

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeIdeal_pre_pool_finite [hMergeIdeal : Cert.MergeIdeal.Facts] [hPre_pool_finite : Cert.Pre_pool_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_pool_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_MergeRefIdeal_pre_pool_finite [hMergeRefIdeal : Cert.MergeRefIdeal.Facts] [hPre_pool_finite : Cert.Pre_pool_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_pool_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v9_0)) (v1 : (c : Dev Cert.InprojIdeal.nD) → Buf (Elt Ideal) ((c.tc : Thread Cert.InprojIdeal.nD Cert.InprojIdeal.τ).loc Cert.InprojIdeal.main_v9_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9_0) = v0 c
          ∧ r.2.mem ((c.tc : Thread Cert.InprojIdeal.nD Cert.InprojIdeal.τ).loc Cert.InprojIdeal.main_v9_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v19) = v0 c
          ∧ r.2.mem ((c.tc : Thread Cert.InprojRefIdeal.nD Cert.InprojRefIdeal.τ).loc Cert.InprojRefIdeal.main_v21) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Merge_MergeIdeal : Prop :=
  True

def algebraic_MergeIdeal_MergeRefIdeal_pre_pool_finite [hMergeIdeal : Cert.MergeIdeal.Facts] [hMergeRefIdeal : Cert.MergeRefIdeal.Facts] [hPre_pool_finite : Cert.Pre_pool_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_pool_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v124) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Rwkv_RwkvIdeal : Prop :=
  True

def preserves_Attn_AttnIdeal : Prop :=
  True

def Claim : Prop :=
  ∃ (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hRwkv : Cert.Rwkv.Facts) (hRwkvIdeal : Cert.RwkvIdeal.Facts) (hAttn : Cert.Attn.Facts) (hAttnIdeal : Cert.AttnIdeal.Facts) (hPre_pool_finite : Cert.Pre_pool_finite.Facts),
    quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeIdeal_pre_pool_finite (hMergeIdeal := hMergeIdeal) (hPre_pool_finite := hPre_pool_finite)
    ∧ quiescent_MergeRefIdeal (hMergeRefIdeal := hMergeRefIdeal)
    ∧ quiescent_MergeRefIdeal_pre_pool_finite (hMergeRefIdeal := hMergeRefIdeal) (hPre_pool_finite := hPre_pool_finite)
    ∧ quiescent_Rwkv (hRwkv := hRwkv)
    ∧ quiescent_RwkvIdeal (hRwkvIdeal := hRwkvIdeal)
    ∧ quiescent_Attn (hAttn := hAttn)
    ∧ quiescent_AttnIdeal (hAttnIdeal := hAttnIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal_pre_pool_finite (hMergeIdeal := hMergeIdeal) (hMergeRefIdeal := hMergeRefIdeal) (hPre_pool_finite := hPre_pool_finite)
    ∧ preserves_Rwkv_RwkvIdeal
    ∧ preserves_Attn_AttnIdeal
-- ==== Pre_pool_finite.lean ====
abbrev S32768x1024 : Shape := ⟨2, ![32768, 1024]⟩
abbrev S32768x512 : Shape := ⟨2, ![32768, 512]⟩
abbrev S4x512x8192 : Shape := ⟨3, ![4, 512, 8192]⟩
abbrev S32768x4096 : Shape := ⟨2, ![32768, 4096]⟩
abbrev S32768x3072 : Shape := ⟨2, ![32768, 3072]⟩
abbrev S4x128x128 : Shape := ⟨3, ![4, 128, 128]⟩
abbrev S512 : Shape := ⟨1, ![512]⟩
abbrev S3x512x1024 : Shape := ⟨3, ![3, 512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  slices_S32768x4096_S32768x512_0_3584 : S32768x4096.Slices ![0, 3584] S32768x512
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x1024 .f32) (main_arg1 : FVec F S32768x512 .bf16) (main_arg2 : FVec F S4x512x8192 .bf16) (main_arg3 : FVec F S32768x4096 .f32) (main_arg4 : FVec F S32768x3072 .bf16) (main_arg5 : FVec F S4x128x128 .f32) (main_arg6 : FVec F S512 .f32) (main_arg7 : FVec F S3x512x1024 .f32) (main_arg8 : FVec F S1024x1024 .f32) (main_arg9 : FVec F S1024 .f32) (main_arg10 : FVec F S1024x4096 .f32) (main_arg11 : FVec F S4096x1024 .f32) : IVec S_ 1 :=
  let main_v0 : FVec F S32768x512 .f32 := (extractStridedSlice S32768x512 ![0, 3584] · slices_S32768x4096_S32768x512_0_3584) main_arg3
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  main_v4
-- ==== Inproj.lean ====
abbrev S4x8192x1024 : Shape := ⟨3, ![4, 8192, 1024]⟩
abbrev S1024 : Shape := ⟨1, ![1024]⟩
abbrev S1024x6912 : Shape := ⟨2, ![1024, 6912]⟩
abbrev S32768x1024 : Shape := ⟨2, ![32768, 1024]⟩
abbrev S1024x1792 : Shape := ⟨2, ![1024, 1792]⟩
abbrev S_ : Shape := ⟨0, ![]⟩
abbrev S1024x256 : Shape := ⟨2, ![1024, 256]⟩
abbrev S1024x2048 : Shape := ⟨2, ![1024, 2048]⟩
abbrev S1024x4096 : Shape := ⟨2, ![1024, 4096]⟩
abbrev S1x1024 : Shape := ⟨2, ![1, 1024]⟩
abbrev S1024x3072 : Shape := ⟨2, ![1024, 3072]⟩
abbrev S32768x4096 : Shape := ⟨2, ![32768, 4096]⟩
abbrev S32768x3072 : Shape := ⟨2, ![32768, 3072]⟩
abbrev S512x1024 : Shape := ⟨2, ![512, 1024]⟩
abbrev S512x4096 : Shape := ⟨2, ![512, 4096]⟩
abbrev S512x3072 : Shape := ⟨2, ![512, 3072]⟩
abbrev S512 : Shape := ⟨1, ![512]⟩
abbrev S512x1 : Shape := ⟨2, ![512, 1]⟩
abbrev S1024x1024 : Shape := ⟨2, ![1024, 1024]⟩

abbrev nBuf : Space → Nat
  | .hbm => 15
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6912, .f32⟩
  | .hbm, ⟨3, _⟩ => ⟨S32768x1024, .f32⟩
  | .hbm, ⟨4, _⟩ => ⟨S1024x1792, .f32⟩
  | .hbm, ⟨5, _⟩ => ⟨S_, .f32⟩
  | .hbm, ⟨6, _⟩ => ⟨S1024x256, .f32⟩
  | .hbm, ⟨7, _⟩ => ⟨S1024x2048, .f32⟩
  | .hbm, ⟨8, _⟩ => ⟨S1024x4096, .f32⟩
  | .hbm, ⟨9, _⟩ => ⟨S1024x4096, .bf16⟩
  | .hbm, ⟨10, _⟩ => ⟨S1x1024, .f32⟩
  | .hbm, ⟨11, _⟩ => ⟨S1024x3072, .f32⟩
  | .hbm, ⟨12, _⟩ => ⟨S1024x3072, .bf16⟩
  | .hbm, ⟨13, _⟩ => ⟨S32768x4096, .f32⟩
  | .hbm, ⟨14, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x3072, .bf16⟩
  | .local _ .vmem, ⟨5, _⟩ => ⟨S512x4096, .f32⟩
  | .local _ .vmem, ⟨6, _⟩ => ⟨S512x4096, .f32⟩
  | .local _ .vmem, ⟨7, _⟩ => ⟨S512x3072, .bf16⟩
  | .local _ .vmem, ⟨8, _⟩ => ⟨S512x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojRefIdeal.lean ====
abbrev S4x8192x1024 : Shape := ⟨3, ![4, 8192, 1024]⟩
abbrev S1024 : Shape := ⟨1, ![1024]⟩
abbrev S1024x6912 : Shape := ⟨2, ![1024, 6912]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6912 : Shape := ⟨3, ![4, 8192, 6912]⟩
abbrev S4x8192x1792 : Shape := ⟨3, ![4, 8192, 1792]⟩
abbrev S4x8192x2048 : Shape := ⟨3, ![4, 8192, 2048]⟩
abbrev S4x8192x3072 : Shape := ⟨3, ![4, 8192, 3072]⟩
abbrev S4x8192x256 : Shape := ⟨3, ![4, 8192, 256]⟩
abbrev S4x8192x4096 : Shape := ⟨3, ![4, 8192, 4096]⟩
abbrev S32768x4096 : Shape := ⟨2, ![32768, 4096]⟩
abbrev S32768x3072 : Shape := ⟨2, ![32768, 3072]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6912, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x6912, .f32⟩
  | .hbm, ⟨20, _⟩ => ⟨S4x8192x1792, .f32⟩
  | .hbm, ⟨21, _⟩ => ⟨S4x8192x2048, .f32⟩
  | .hbm, ⟨22, _⟩ => ⟨S4x8192x3072, .f32⟩
  | .hbm, ⟨23, _⟩ => ⟨S_, .f32⟩
  | .hbm, ⟨24, _⟩ => ⟨S4x8192x256, .f32⟩
  | .hbm, ⟨25, _⟩ => ⟨S4x8192x4096, .f32⟩
  | .hbm, ⟨26, _⟩ => ⟨S32768x4096, .f32⟩
  | .hbm, ⟨27, _⟩ => ⟨S4x8192x3072, .bf16⟩
  | .hbm, ⟨28, _⟩ => ⟨S32768x3072, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S4x512x8192 : Shape := ⟨3, ![4, 512, 8192]⟩
abbrev S32768x4096 : Shape := ⟨2, ![32768, 4096]⟩
abbrev S32768x3072 : Shape := ⟨2, ![32768, 3072]⟩
abbrev S4x128x128 : Shape := ⟨3, ![4, 128, 128]⟩
abbrev S512 : Shape := ⟨1, ![512]⟩
abbrev S3x512x1024 : Shape := ⟨3, ![3, 512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x512 : Shape := ⟨2, ![1, 512]⟩
abbrev S1x1024 : Shape := ⟨2, ![1, 1024]⟩
abbrev S512x1024 : Shape := ⟨2, ![512, 1024]⟩
abbrev S512x512 : Shape := ⟨2, ![512, 512]⟩
abbrev S1x512x512 : Shape := ⟨3, ![1, 512, 512]⟩
abbrev S16x512 : Shape := ⟨2, ![16, 512]⟩
abbrev S528x512 : Shape := ⟨2, ![528, 512]⟩
abbrev S512x128 : Shape := ⟨2, ![512, 128]⟩
abbrev S528x128 : Shape := ⟨2, ![528, 128]⟩
abbrev S1x128x128 : Shape := ⟨3, ![1, 128, 128]⟩
abbrev S128x128 : Shape := ⟨2, ![128, 128]⟩
abbrev S1x512x1024 : Shape := ⟨3, ![1, 512, 1024]⟩
abbrev S512x1 : Shape := ⟨2, ![512, 1]⟩

abbrev nBuf : Space → Nat
  | .hbm => 20
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S4x512x8192, .bf16⟩
  | .hbm, ⟨3, _⟩ => ⟨S32768x4096, .f32⟩
  | .hbm, ⟨4, _⟩ => ⟨S32768x3072, .bf16⟩
  | .hbm, ⟨5, _⟩ => ⟨S4x128x128, .f32⟩
  | .hbm, ⟨6, _⟩ => ⟨S512, .f32⟩
  | .hbm, ⟨7, _⟩ => ⟨S3x512x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S4x128x128, .bf16⟩
  | .hbm, ⟨13, _⟩ => ⟨S1x512, .f32⟩
  | .hbm, ⟨14, _⟩ => ⟨S3x512x1024, .bf16⟩
  | .hbm, ⟨15, _⟩ => ⟨S1024x1024, .bf16⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | .local _ .vmem, ⟨7, _⟩ => ⟨S512x512, .f32⟩
  | .local _ .vmem, ⟨8, _⟩ => ⟨S16x512, .f32⟩
  | .local _ .vmem, ⟨9, _⟩ => ⟨S16x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S4x128x128, .bf16⟩
  | .local _ .vmem, ⟨17, _⟩ => ⟨S1x512, .f32⟩
  | .local _ .vmem, ⟨18, _⟩ => ⟨S3x512x1024, .bf16⟩
  | .local _ .vmem, ⟨19, _⟩ => ⟨S1024x1024, .bf16⟩
  | .local _ .vmem, ⟨20, _⟩ => ⟨S1x1024, .f32⟩
  | .local _ .vmem, ⟨21, _⟩ => ⟨S1024x4096, .bf16⟩
  | .local _ .vmem, ⟨22, _⟩ => ⟨S4096x1024, .bf16⟩
  | .local _ .vmem, ⟨23, _⟩ => ⟨S512x1024, .f32⟩
  | .local _ .vmem, ⟨24, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c7_i32 : BitVec 32 := 7#32
  let c0_i32_0 : BitVec 32 := 0#32
  ![v4.toNat, c7_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeRefIdeal.lean ====
abbrev S32768x1024 : Shape := ⟨2, ![32768, 1024]⟩
abbrev S32768x512 : Shape := ⟨2, ![32768, 512]⟩
abbrev S4x512x8192 : Shape := ⟨3, ![4, 512, 8192]⟩
abbrev S32768x4096 : Shape := ⟨2, ![32768, 4096]⟩
abbrev S32768x3072 : Shape := ⟨2, ![32768, 3072]⟩
abbrev S4x128x128 : Shape := ⟨3, ![4, 128, 128]⟩
abbrev S512 : Shape := ⟨1, ![512]⟩
abbrev S3x512x1024 : Shape := ⟨3, ![3, 512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x8192x1024 : Shape := ⟨3, ![4, 8192, 1024]⟩
abbrev S4x8192x512 : Shape := ⟨3, ![4, 8192, 512]⟩
abbrev S4x8192x4x128 : Shape := ⟨4, ![4, 8192, 4, 128]⟩
abbrev S_ : Shape := ⟨0, ![]⟩
abbrev S4x8192x1x128 : Shape := ⟨4, ![4, 8192, 1, 128]⟩
abbrev S4x8192x128 : Shape := ⟨3, ![4, 8192, 128]⟩
abbrev S4x8190x128 : Shape := ⟨3, ![4, 8190, 128]⟩
abbrev S8192 : Shape := ⟨1, ![8192]⟩
abbrev S1x8192x1 : Shape := ⟨3, ![1, 8192, 1]⟩
abbrev S4x8188x128 : Shape := ⟨3, ![4, 8188, 128]⟩
abbrev S4x8184x128 : Shape := ⟨3, ![4, 8184, 128]⟩
abbrev S4x8176x128 : Shape := ⟨3, ![4, 8176, 128]⟩
abbrev S4x128x4x8192 : Shape := ⟨4, ![4, 128, 4, 8192]⟩
abbrev S1x1x512 : Shape := ⟨3, ![1, 1, 512]⟩
abbrev S4x8192x1x512 : Shape := ⟨4, ![4, 8192, 1, 512]⟩
abbrev S4x8192x3x512 : Shape := ⟨4, ![4, 8192, 3, 512]⟩
abbrev S3x1024x4x8192 : Shape := ⟨4, ![3, 1024, 4, 8192]⟩
abbrev S4x8192x3x1024 : Shape := ⟨4, ![4, 8192, 3, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 163
  | .vmem => 0
  | .smem => 0
  | _ => 0

abbrev hbmTy0_0 (i : Nat) : BufTy := match i % 128 with
  | 0 => ⟨S32768x1024, .f32⟩
  | 1 => ⟨S32768x512, .bf16⟩
  | 2 => ⟨S4x512x8192, .bf16⟩
  | 3 => ⟨S32768x4096, .f32⟩
  | 4 => ⟨S32768x3072, .bf16⟩
  | 5 => ⟨S4x128x128, .f32⟩
  | 6 => ⟨S512, .f32⟩
  | 7 => ⟨S3x512x1024, .f32⟩
  | 8 => ⟨S1024x1024, .f32⟩
  | 9 => ⟨S1024, .f32⟩
  | 10 => ⟨S1024x4096, .f32⟩
  | 11 => ⟨S4096x1024, .f32⟩
  | 12 => ⟨S4x8192x1024, .f32⟩
  | 13 => ⟨S32768x512, .f32⟩
  | 14 => ⟨S4x8192x512, .f32⟩
  | 15 => ⟨S4x512x8192, .f32⟩
  | 16 => ⟨S4x8192x512, .f32⟩
  | 17 => ⟨S32768x512, .f32⟩
  | 18 => ⟨S4x8192x512, .f32⟩
  | 19 => ⟨S4x8192x4x128, .f32⟩
  | 20 => ⟨S_, .f32⟩
  | 21 => ⟨S_, .f32⟩
  | 22 => ⟨S4x8192x4x128, .f32⟩
  | 23 => ⟨S4x8192x1x128, .f32⟩
  | 24 => ⟨S4x8192x128, .f32⟩
  | 25 => ⟨S4x8190x128, .f32⟩
  | 26 => ⟨S_, .i32⟩
  | 27 => ⟨S_, .f32⟩
  | 28 => ⟨S4x8192x128, .f32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .f32⟩
  | 37 => ⟨S1x8192x1, .f32⟩
  | 38 => ⟨S4x8192x128, .f32⟩
  | 39 => ⟨S4x8192x128, .f32⟩
  | 40 => ⟨S4x8192x128, .f32⟩
  | 41 => ⟨S4x8192x1x128, .f32⟩
  | 42 => ⟨S4x8192x128, .f32⟩
  | 43 => ⟨S4x8192x128, .f32⟩
  | 44 => ⟨S4x8192x1x128, .f32⟩
  | 45 => ⟨S4x8192x128, .f32⟩
  | 46 => ⟨S4x8188x128, .f32⟩
  | 47 => ⟨S_, .i32⟩
  | 48 => ⟨S_, .f32⟩
  | 49 => ⟨S4x8192x128, .f32⟩
  | 50 => ⟨S8192, .i32⟩
  | 51 => ⟨S_, .i32⟩
  | 52 => ⟨S8192, .i32⟩
  | 53 => ⟨S8192, .i32⟩
  | 54 => ⟨S_, .i32⟩
  | 55 => ⟨S8192, .i32⟩
  | 56 => ⟨S8192, .i32⟩
  | 57 => ⟨S8192, .f32⟩
  | 58 => ⟨S1x8192x1, .f32⟩
  | 59 => ⟨S4x8192x128, .f32⟩
  | 60 => ⟨S4x8192x128, .f32⟩
  | 61 => ⟨S4x8192x128, .f32⟩
  | 62 => ⟨S4x8192x1x128, .f32⟩
  | 63 => ⟨S4x8192x128, .f32⟩
  | 64 => ⟨S4x8192x128, .f32⟩
  | 65 => ⟨S4x8192x1x128, .f32⟩
  | 66 => ⟨S4x8192x128, .f32⟩
  | 67 => ⟨S4x8184x128, .f32⟩
  | 68 => ⟨S_, .i32⟩
  | 69 => ⟨S_, .f32⟩
  | 70 => ⟨S4x8192x128, .f32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192, .f32⟩
  | 79 => ⟨S1x8192x1, .f32⟩
  | 80 => ⟨S4x8192x128, .f32⟩
  | 81 => ⟨S4x8192x128, .f32⟩
  | 82 => ⟨S4x8192x128, .f32⟩
  | 83 => ⟨S4x8192x1x128, .f32⟩
  | 84 => ⟨S4x8192x128, .f32⟩
  | 85 => ⟨S4x8192x128, .f32⟩
  | 86 => ⟨S4x8192x1x128, .f32⟩
  | 87 => ⟨S4x8192x128, .f32⟩
  | 88 => ⟨S4x8176x128, .f32⟩
  | 89 => ⟨S_, .i32⟩
  | 90 => ⟨S_, .f32⟩
  | 91 => ⟨S4x8192x128, .f32⟩
  | 92 => ⟨S8192, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S8192, .f32⟩
  | 100 => ⟨S1x8192x1, .f32⟩
  | 101 => ⟨S4x8192x128, .f32⟩
  | 102 => ⟨S4x8192x128, .f32⟩
  | 103 => ⟨S4x8192x128, .f32⟩
  | 104 => ⟨S4x8192x1x128, .f32⟩
  | 105 => ⟨S4x8192x128, .f32⟩
  | 106 => ⟨S4x8192x128, .f32⟩
  | 107 => ⟨S4x8192x1x128, .f32⟩
  | 108 => ⟨S4x8192x1x128, .f32⟩
  | 109 => ⟨S4x8192x1x128, .f32⟩
  | 110 => ⟨S4x8192x1x128, .f32⟩
  | 111 => ⟨S4x8192x4x128, .f32⟩
  | 112 => ⟨S4x128x4x8192, .f32⟩
  | 113 => ⟨S4x8192x4x128, .f32⟩
  | 114 => ⟨S4x8192x512, .f32⟩
  | 115 => ⟨S1x1x512, .f32⟩
  | 116 => ⟨S4x8192x512, .f32⟩
  | 117 => ⟨S4x8192x512, .f32⟩
  | 118 => ⟨S4x8192x1x512, .f32⟩
  | 119 => ⟨S4x8192x1x512, .f32⟩
  | 120 => ⟨S4x8192x1x512, .f32⟩
  | 121 => ⟨S4x8192x3x512, .f32⟩
  | 122 => ⟨S3x1024x4x8192, .f32⟩
  | 123 => ⟨S4x8192x3x1024, .f32⟩
  | 124 => ⟨S32768x3072, .f32⟩
  | 125 => ⟨S4x8192x3x1024, .f32⟩
  | 126 => ⟨S4x8192x3x1024, .f32⟩
  | 127 => ⟨S4x8192x3x1024, .f32⟩
  | _ => ⟨S32768x1024, .f32⟩

abbrev hbmTy0_1 (i : Nat) : BufTy := match i % 128 with
  | 0 => ⟨S_, .f32⟩
  | 1 => ⟨S4x8192x3x1024, .f32⟩
  | 2 => ⟨S4x8192x3x1024, .f32⟩
  | 3 => ⟨S_, .f32⟩
  | 4 => ⟨S4x8192x3x1024, .f32⟩
  | 5 => ⟨S4x8192x3x1024, .f32⟩
  | 6 => ⟨S4x8192x3x1024, .f32⟩
  | 7 => ⟨S_, .f32⟩
  | 8 => ⟨S4x8192x1024, .f32⟩
  | 9 => ⟨S4x8192x1024, .f32⟩
  | 10 => ⟨S4x8192x1024, .f32⟩
  | 11 => ⟨S4x8192x1024, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S_, .f32⟩
  | 19 => ⟨S4x8192x1, .f32⟩
  | 20 => ⟨S4x8192x1, .f32⟩
  | 21 => ⟨S4x8192x1, .f32⟩
  | 22 => ⟨S4x8192x1024, .f32⟩
  | 23 => ⟨S4x8192x1024, .f32⟩
  | 24 => ⟨S1x1x1024, .f32⟩
  | 25 => ⟨S4x8192x1024, .f32⟩
  | 26 => ⟨S4x8192x1024, .f32⟩
  | 27 => ⟨S4x8192x4096, .f32⟩
  | 28 => ⟨S_, .f32⟩
  | 29 => ⟨S4x8192x4096, .f32⟩
  | 30 => ⟨S4x8192x4096, .f32⟩
  | 31 => ⟨S4x8192x4096, .f32⟩
  | 32 => ⟨S4x8192x1024, .f32⟩
  | 33 => ⟨S4x8192x1024, .f32⟩
  | 34 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_call0_cst : Ref sig .tc := ⟨.hbm, 20, rfl⟩
abbrev main_call0_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_2 : Ref sig .tc := ⟨.hbm, 47, rfl⟩
abbrev main_call2_v0 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_5 : Ref sig .tc := ⟨.hbm, 68, rfl⟩
abbrev main_call3_v0 : Ref sig .tc := ⟨.hbm, 69, rfl⟩
abbrev main_v46 : Ref sig .tc := ⟨.hbm, 70, rfl⟩
abbrev main_v47 : Ref sig .tc := ⟨.hbm, 71, rfl⟩
abbrev main_c_6 : Ref sig .tc := ⟨.hbm, 72, rfl⟩
abbrev main_v48 : Ref sig .tc := ⟨.hbm, 73, rfl⟩
abbrev main_v49 : Ref sig .tc := ⟨.hbm, 74, rfl⟩
abbrev main_c_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_8 : Ref sig .tc := ⟨.hbm, 89, rfl⟩
abbrev main_call4_v0 : Ref sig .tc := ⟨.hbm, 90, rfl⟩
abbrev main_v63 : Ref sig .tc := ⟨.hbm, 91, rfl⟩
abbrev main_v64 : Ref sig .tc := ⟨.hbm, 92, rfl⟩
abbrev main_c_9 : Ref sig .tc := ⟨.hbm, 93, rfl⟩
abbrev main_v65 : Ref sig .tc := ⟨.hbm, 94, rfl⟩
abbrev main_v66 : Ref sig .tc := ⟨.hbm, 95, rfl⟩
abbrev main_c_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst : Ref sig .tc := ⟨.hbm, 128, rfl⟩
abbrev main_v98 : Ref sig .tc := ⟨.hbm, 129, rfl⟩
abbrev main_v99 : Ref sig .tc := ⟨.hbm, 130, rfl⟩
abbrev main_cst_11 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_12 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_13 : Ref sig .tc := ⟨.hbm, 140, rfl⟩
abbrev main_v107 : Ref sig .tc := ⟨.hbm, 141, rfl⟩
abbrev main_v108 : Ref sig .tc := ⟨.hbm, 142, rfl⟩
abbrev main_cst_14 : Ref sig .tc := ⟨.hbm, 143, rfl⟩
abbrev main_v109 : Ref sig .tc := ⟨.hbm, 144, rfl⟩
abbrev main_v110 : Ref sig .tc := ⟨.hbm, 145, rfl⟩
abbrev main_cst_15 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_call5_cst : Ref sig .tc := ⟨.hbm, 156, rfl⟩
abbrev main_call5_v0 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩

abbrev nD : Nat := 1
abbrev τ : Topo := Topo.v7x

variable {F : FTy → Type} [FloatOps F]
-- ==== Rwkv.lean ====
abbrev S32768x4096 : Shape := ⟨2, ![32768, 4096]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S1x1792 : Shape := ⟨2, ![1, 1792]⟩
abbrev S1x512 : Shape := ⟨2, ![1, 512]⟩
abbrev S512x512 : Shape := ⟨2, ![512, 512]⟩
abbrev S4x8192x4096 : Shape := ⟨3, ![4, 8192, 4096]⟩
abbrev S4x8192x512 : Shape := ⟨3, ![4, 8192, 512]⟩
abbrev S4x64x1792 : Shape := ⟨3, ![4, 64, 1792]⟩
abbrev S4x8x1792 : Shape := ⟨3, ![4, 8, 1792]⟩
abbrev S4x64x512 : Shape := ⟨3, ![4, 64, 512]⟩
abbrev S8x64x256 : Shape := ⟨3, ![8, 64, 256]⟩
abbrev S256x512 : Shape := ⟨2, ![256, 512]⟩
abbrev S4x1x512 : Shape := ⟨3, ![4, 1, 512]⟩
abbrev S64x256 : Shape := ⟨2, ![64, 256]⟩
abbrev S64x128 : Shape := ⟨2, ![64, 128]⟩
abbrev S1x64x256 : Shape := ⟨3, ![1, 64, 256]⟩
abbrev S1x1x256 : Shape := ⟨3, ![1, 1, 256]⟩
abbrev S1x256 : Shape := ⟨2, ![1, 256]⟩
abbrev S256x256 : Shape := ⟨2, ![256, 256]⟩
abbrev S128x256 : Shape := ⟨2, ![128, 256]⟩
abbrev S1x64x128 : Shape := ⟨3, ![1, 64, 128]⟩
abbrev S1x1x128 : Shape := ⟨3, ![1, 1, 128]⟩
abbrev S1x128 : Shape := ⟨2, ![1, 128]⟩
abbrev S256x128 : Shape := ⟨2, ![256, 128]⟩
abbrev S1x1x512 : Shape := ⟨3, ![1, 1, 512]⟩
abbrev S1x64x512 : Shape := ⟨3, ![1, 64, 512]⟩
abbrev S32768x512 : Shape := ⟨2, ![32768, 512]⟩

abbrev nBuf : Space → Nat
  | .hbm => 72
  | .vmem => 29
  | .smem => 0
  | _ => 0

abbrev bufTy : (tb : Table) → Fin (tcTables nBuf tb) → BufTy
  | .hbm, ⟨0, _⟩ => ⟨S32768x4096, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S512, .f32⟩
  | .hbm, ⟨11, _⟩ => ⟨S512, .f32⟩
  | .hbm, ⟨12, _⟩ => ⟨S_, .f32⟩
  | .hbm, ⟨13, _⟩ => ⟨S64x512, .f32⟩
  | .hbm, ⟨14, _⟩ => ⟨S128x512, .f32⟩
  | .hbm, ⟨15, _⟩ => ⟨S128x512, .f32⟩
  | .hbm, ⟨16, _⟩ => ⟨S1x1792, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S512x512, .i32⟩
  | .hbm, ⟨25, _⟩ => ⟨S_, .i32⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S512x512, .i32⟩
  | .hbm, ⟨30, _⟩ => ⟨S_, .i32⟩
  | .hbm, ⟨31, _⟩ => ⟨S512x512, .i32⟩
  | .hbm, ⟨32, _⟩ => ⟨S512x512, .i1⟩
  | .hbm, ⟨33, _⟩ => ⟨S512x512, .i32⟩
  | .hbm, ⟨34, _⟩ => ⟨S512x512, .i32⟩
  | .hbm, ⟨35, _⟩ => ⟨S_, .i32⟩
  | .hbm, ⟨36, _⟩ => ⟨S512x512, .i32⟩
  | .hbm, ⟨37, _⟩ => ⟨S512x512, .i1⟩
  | .hbm, ⟨38, _⟩ => ⟨S512x512, .i1⟩
  | .hbm, ⟨39, _⟩ => ⟨S_, .i32⟩
  | .hbm, ⟨40, _⟩ => ⟨S512x512, .i32⟩
  | .hbm, ⟨41, _⟩ => ⟨S512x512, .i32⟩
  | .hbm, ⟨42, _⟩ => ⟨S512x512, .i32⟩
  | .hbm, ⟨43, _⟩ => ⟨S512x512, .i32⟩
  | .hbm, ⟨44, _⟩ => ⟨S_, .i32⟩
  | .hbm, ⟨45, _⟩ => ⟨S_, .i32⟩
  | .hbm, ⟨46, _⟩ => ⟨S512x512, .i32⟩
  | .hbm, ⟨47, _⟩ => ⟨S512x512, .i32⟩
  | .hbm, ⟨48, _⟩ => ⟨S512x512, .i32⟩
  | .hbm, ⟨49, _⟩ => ⟨S_, .i32⟩
  | .hbm, ⟨50, _⟩ => ⟨S512x512, .i32⟩
  | .hbm, ⟨51, _⟩ => ⟨S512x512, .i1⟩
  | .hbm, ⟨52, _⟩ => ⟨S512x512, .i32⟩
  | .hbm, ⟨53, _⟩ => ⟨S512x512, .i32⟩
  | .hbm, ⟨54, _⟩ => ⟨S_, .i32⟩
  | .hbm, ⟨55, _⟩ => ⟨S512x512, .i32⟩
  | .hbm, ⟨56, _⟩ => ⟨S512x512, .i1⟩
  | .hbm, ⟨57, _⟩ => ⟨S512x512, .i1⟩
  | .hbm, ⟨58, _⟩ => ⟨S_, .i32⟩
  | .hbm, ⟨59, _⟩ => ⟨S512x512, .i32⟩
  | .hbm, ⟨60, _⟩ => ⟨S512x512, .i32⟩
  | .hbm, ⟨61, _⟩ => ⟨S512x512, .i32⟩
  | .hbm, ⟨62, _⟩ => ⟨S512x512, .i1⟩
  | .hbm, ⟨63, _⟩ => ⟨S_, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S512x512, .bf16⟩
  | .hbm, ⟨69, _⟩ => ⟨S4x8192x4096, .f32⟩
  | .hbm, ⟨70, _⟩ => ⟨S4x8192x512, .bf16⟩
  | .hbm, ⟨71, _⟩ => ⟨S32768x512, .bf16⟩
  | .local _ .vmem, ⟨0, _⟩ => ⟨S4x64x1792, .f32⟩
  | .local _ .vmem, ⟨1, _⟩ => ⟨S4x64x1792, .f32⟩
  | .local _ .vmem, ⟨2, _⟩ => ⟨S4x8x1792, .f32⟩
  | .local _ .vmem, ⟨3, _⟩ => ⟨S4x8x1792, .f32⟩
  | .local _ .vmem, ⟨4, _⟩ => ⟨S1x1792, .f32⟩
  | .local _ .vmem, ⟨5, _⟩ => ⟨S1x512, .f32⟩
  | .local _ .vmem, ⟨6, _⟩ => ⟨S128x512, .f32⟩
  | .local _ .vmem, ⟨7, _⟩ => ⟨S1x512, .f32⟩
  | .local _ .vmem, ⟨8, _⟩ => ⟨S128x512, .f32⟩
  | .local _ .vmem, ⟨9, _⟩ => ⟨S128x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S4x64x512, .bf16⟩
  | .local _ .vmem, ⟨17, _⟩ => ⟨S4x64x512, .bf16⟩
  | .local _ .vmem, ⟨18, _⟩ => ⟨S8x64x256, .f32⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .f32⟩
  | .local _ .vmem, ⟨27, _⟩ => ⟨S256x512, .f32⟩
  | .local _ .vmem, ⟨28, _⟩ => ⟨S4x1x512, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v12 : Ref sig .tc := ⟨.hbm, 42, rfl⟩
abbrev main_v13 : Ref sig .tc := ⟨.hbm, 43, rfl⟩
abbrev main_c_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v14 : Ref sig .tc := ⟨.hbm, 61, rfl⟩
abbrev main_v15 : Ref sig .tc := ⟨.hbm, 62, rfl⟩
abbrev main_cst_1 : Ref sig .tc := ⟨.hbm, 63, rfl⟩
abbrev main_cst_2 : Ref sig .tc := ⟨.hbm, 64, rfl⟩
abbrev main_call2_v0 : Ref sig .tc := ⟨.hbm, 65, rfl⟩
abbrev main_call2_v1 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![1, 129], ![false, false]⟩

def cc0_transform_0 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S4x64x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S4x64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Attn.lean ====
abbrev S32768x4096 : Shape := ⟨2, ![32768, 4096]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x512 : Shape := ⟨2, ![512, 512]⟩
abbrev S_ : Shape := ⟨0, ![]⟩
abbrev S512x1024 : Shape := ⟨2, ![512, 1024]⟩
abbrev S4x512x8192 : Shape := ⟨3, ![4, 512, 8192]⟩
abbrev S256x512 : Shape := ⟨2, ![256, 512]⟩
abbrev S1x512x256 : Shape := ⟨3, ![1, 512, 256]⟩
abbrev S32x512 : Shape := ⟨2, ![32, 512]⟩
abbrev S8x32x256x128 : Shape := ⟨4, ![8, 32, 256, 128]⟩
abbrev S8x32x80x256 : Shape := ⟨4, ![8, 32, 80, 256]⟩
abbrev S8x256x256 : Shape := ⟨3, ![8, 256, 256]⟩
abbrev S8x1x256 : Shape := ⟨3, ![8, 1, 256]⟩
abbrev S8x80x256 : Shape := ⟨3, ![8, 80, 256]⟩
abbrev S256x256 : Shape := ⟨2, ![256, 256]⟩
abbrev S512x256 : Shape := ⟨2, ![512, 256]⟩
abbrev S256x1024 : Shape := ⟨2, ![256, 1024]⟩
abbrev S16x256 : Shape := ⟨2, ![16, 256]⟩
abbrev S32x256 : Shape := ⟨2, ![32, 256]⟩
abbrev S8x256 : Shape := ⟨2, ![8, 256]⟩
abbrev S24x256 : Shape := ⟨2, ![24, 256]⟩
abbrev S64x256 : Shape := ⟨2, ![64, 256]⟩
abbrev S32x64 : Shape := ⟨2, ![32, 64]⟩
abbrev S256 : Shape := ⟨1, ![256]⟩
abbrev S1x256 : Shape := ⟨2, ![1, 256]⟩
abbrev S128x256 : Shape := ⟨2, ![128, 256]⟩
abbrev S256x128 : Shape := ⟨2, ![256, 128]⟩
abbrev S1x1x256x128 : Shape := ⟨4, ![1, 1, 256, 128]⟩
abbrev S80x256 : Shape := ⟨2, ![80, 256]⟩
abbrev S1x1x80x256 : Shape := ⟨4, ![1, 1, 80, 256]⟩
abbrev S1x256x256 : Shape := ⟨3, ![1, 256, 256]⟩
abbrev S1x1x256 : Shape := ⟨3, ![1, 1, 256]⟩
abbrev S1x80x256 : Shape := ⟨3, ![1, 80, 256]⟩
abbrev S1x64x256 : Shape := ⟨3, ![1, 64, 256]⟩

abbrev nBuf : Space → Nat
  | .hbm => 110
  | .vmem => 21
  | .smem => 0
  | _ => 0

abbrev bufTy : (tb : Table) → Fin (tcTables nBuf tb) → BufTy
  | .hbm, ⟨0, _⟩ => ⟨S32768x4096, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S8x64, .f32⟩
  | .hbm, ⟨5, _⟩ => ⟨S512, .f32⟩
  | .hbm, ⟨6, _⟩ => ⟨S1x512, .f32⟩
  | .hbm, ⟨7, _⟩ => ⟨S1x64, .f32⟩
  | .hbm, ⟨8, _⟩ => ⟨S8x64, .f32⟩
  | .hbm, ⟨9, _⟩ => ⟨S512, .f32⟩
  | .hbm, ⟨10, _⟩ => ⟨S1x512, .f32⟩
  | .hbm, ⟨11, _⟩ => ⟨S512x512, .i32⟩
  | .hbm, ⟨12, _⟩ => ⟨S_, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i1⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i1⟩
  | .hbm, ⟨25, _⟩ => ⟨S512x512, .i1⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S_, .i32⟩
  | .hbm, ⟨33, _⟩ => ⟨S512x512, .i32⟩
  | .hbm, ⟨34, _⟩ => ⟨S512x512, .i32⟩
  | .hbm, ⟨35, _⟩ => ⟨S512x512, .i32⟩
  | .hbm, ⟨36, _⟩ => ⟨S_, .i32⟩
  | .hbm, ⟨37, _⟩ => ⟨S512x512, .i32⟩
  | .hbm, ⟨38, _⟩ => ⟨S512x512, .i1⟩
  | .hbm, ⟨39, _⟩ => ⟨S512x512, .i32⟩
  | .hbm, ⟨40, _⟩ => ⟨S512x512, .i32⟩
  | .hbm, ⟨41, _⟩ => ⟨S_, .i32⟩
  | .hbm, ⟨42, _⟩ => ⟨S512x512, .i32⟩
  | .hbm, ⟨43, _⟩ => ⟨S512x512, .i1⟩
  | .hbm, ⟨44, _⟩ => ⟨S512x512, .i1⟩
  | .hbm, ⟨45, _⟩ => ⟨S_, .i32⟩
  | .hbm, ⟨46, _⟩ => ⟨S512x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S_, .f32⟩
  | .hbm, ⟨51, _⟩ => ⟨S_, .f32⟩
  | .hbm, ⟨52, _⟩ => ⟨S512x512, .f32⟩
  | .hbm, ⟨53, _⟩ => ⟨S512x512, .f32⟩
  | .hbm, ⟨54, _⟩ => ⟨S512x512, .f32⟩
  | .hbm, ⟨55, _⟩ => ⟨S512x512, .bf16⟩
  | .hbm, ⟨56, _⟩ => ⟨S512x1024, .i32⟩
  | .hbm, ⟨57, _⟩ => ⟨S512x1024, .i32⟩
  | .hbm, ⟨58, _⟩ => ⟨S_, .i32⟩
  | .hbm, ⟨59, _⟩ => ⟨S_, .i32⟩
  | .hbm, ⟨60, _⟩ => ⟨S512x1024, .i32⟩
  | .hbm, ⟨61, _⟩ => ⟨S512x1024, .i32⟩
  | .hbm, ⟨62, _⟩ => ⟨S512x1024, .i32⟩
  | .hbm, ⟨63, _⟩ => ⟨S_, .i32⟩
  | .hbm, ⟨64, _⟩ => ⟨S512x1024, .i32⟩
  | .hbm, ⟨65, _⟩ => ⟨S512x1024, .i1⟩
  | .hbm, ⟨66, _⟩ => ⟨S512x1024, .i32⟩
  | .hbm, ⟨67, _⟩ => ⟨S512x1024, .i32⟩
  | .hbm, ⟨68, _⟩ => ⟨S_, .i32⟩
  | .hbm, ⟨69, _⟩ => ⟨S512x1024, .i32⟩
  | .hbm, ⟨70, _⟩ => ⟨S512x1024, .i1⟩
  | .hbm, ⟨71, _⟩ => ⟨S512x1024, .i1⟩
  | .hbm, ⟨72, _⟩ => ⟨S_, .i32⟩
  | .hbm, ⟨73, _⟩ => ⟨S512x1024, .i32⟩
  | .hbm, ⟨74, _⟩ => ⟨S512x1024, .i32⟩
  | .hbm, ⟨75, _⟩ => ⟨S512x1024, .i32⟩
  | .hbm, ⟨76, _⟩ => ⟨S_, .i32⟩
  | .hbm, ⟨77, _⟩ => ⟨S512x1024, .i32⟩
  | .hbm, ⟨78, _⟩ => ⟨S512x1024, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S512x1024, .i32⟩
  | .hbm, ⟨86, _⟩ => ⟨S512x1024, .i32⟩
  | .hbm, ⟨87, _⟩ => ⟨S_, .i32⟩
  | .hbm, ⟨88, _⟩ => ⟨S512x1024, .i32⟩
  | .hbm, ⟨89, _⟩ => ⟨S512x1024, .i1⟩
  | .hbm, ⟨90, _⟩ => ⟨S_, .i32⟩
  | .hbm, ⟨91, _⟩ => ⟨S512x1024, .i32⟩
  | .hbm, ⟨92, _⟩ => ⟨S512x1024, .i1⟩
  | .hbm, ⟨93, _⟩ => ⟨S_, .i32⟩
  | .hbm, ⟨94, _⟩ => ⟨S_, .i1⟩
  | .hbm, ⟨95, _⟩ => ⟨S512x1024, .i1⟩
  | .hbm, ⟨96, _⟩ => ⟨S512x1024, .i1⟩
  | .hbm, ⟨97, _⟩ => ⟨S512x1024, .i1⟩
  | .hbm, ⟨98, _⟩ => ⟨S512x1024, .i32⟩
  | .hbm, ⟨99, _⟩ => ⟨S512x1024, .i32⟩
  | .hbm, ⟨100, _⟩ => ⟨S512x1024, .i32⟩
  | .hbm, ⟨101, _⟩ => ⟨S512x1024, .i32⟩
  | .hbm, ⟨102, _⟩ => ⟨S512x1024, .i1⟩
  | .hbm, ⟨103, _⟩ => ⟨S_, .f32⟩
  | .hbm, ⟨104, _⟩ => ⟨S_, .f32⟩
  | .hbm, ⟨105, _⟩ => ⟨S512x1024, .f32⟩
  | .hbm, ⟨106, _⟩ => ⟨S512x1024, .f32⟩
  | .hbm, ⟨107, _⟩ => ⟨S512x1024, .f32⟩
  | .hbm, ⟨108, _⟩ => ⟨S512x1024, .bf16⟩
  | .hbm, ⟨109, _⟩ => ⟨S4x512x8192, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x1024, .bf16⟩
  | .local _ .vmem, ⟨10, _⟩ => ⟨S1x512x256, .bf16⟩
  | .local _ .vmem, ⟨11, _⟩ => ⟨S1x512x256, .bf16⟩
  | .local _ .vmem, ⟨12, _⟩ => ⟨S32x512, .f32⟩
  | .local _ .vmem, ⟨13, _⟩ => ⟨S8x32x256x128, .bf16⟩
  | .local _ .vmem, ⟨14, _⟩ => ⟨S8x32x80x256, .bf16⟩
  | .local _ .vmem, ⟨15, _⟩ => ⟨S8x256x256, .f32⟩
  | .local _ .vmem, ⟨16, _⟩ => ⟨S8x256x256, .f32⟩
  | .local _ .vmem, ⟨17, _⟩ => ⟨S8x1x256, .f32⟩
  | .local _ .vmem, ⟨18, _⟩ => ⟨S8x1x256, .f32⟩
  | .local _ .vmem, ⟨19, _⟩ => ⟨S8x1x256, .f32⟩
  | .local _ .vmem, ⟨20, _⟩ => ⟨S8x80x256, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v11 : Ref sig .tc := ⟨.hbm, 48, rfl⟩
abbrev main_v12 : Ref sig .tc := ⟨.hbm, 49, rfl⟩
abbrev main_cst : Ref sig .tc := ⟨.hbm, 50, rfl⟩
abbrev main_cst_1 : Ref sig .tc := ⟨.hbm, 51, rfl⟩
abbrev main_call2_v0 : Ref sig .tc := ⟨.hbm, 52, rfl⟩
abbrev main_call2_v1 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_c_2 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_c : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_0 : Ref sig .tc := ⟨.hbm, 72, rfl⟩
abbrev main_call3_v12 : Ref sig .tc := ⟨.hbm, 73, rfl⟩
abbrev main_call3_v13 : Ref sig .tc := ⟨.hbm, 74, rfl⟩
abbrev main_v17 : Ref sig .tc := ⟨.hbm, 75, rfl⟩
abbrev main_c_3 : Ref sig .tc := ⟨.hbm, 76, rfl⟩
abbrev main_v18 : Ref sig .tc := ⟨.hbm, 77, rfl⟩
abbrev main_v19 : Ref sig .tc := ⟨.hbm, 78, rfl⟩
abbrev main_c_4 : Ref sig .tc := ⟨.hbm, 79, rfl⟩
abbrev main_call4_v0 : Ref sig .tc := ⟨.hbm, 80, rfl⟩
abbrev main_call4_c : Ref sig .tc := ⟨.hbm, 81, rfl⟩
abbrev main_call4_v1 : Ref sig .tc := ⟨.hbm, 82, rfl⟩
abbrev main_call4_c_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_c_1 : Ref sig .tc := ⟨.hbm, 87, rfl⟩
abbrev main_call4_v5 : Ref sig .tc := ⟨.hbm, 88, rfl⟩
abbrev main_call4_v6 : Ref sig .tc := ⟨.hbm, 89, rfl⟩
abbrev main_call4_c_2 : Ref sig .tc := ⟨.hbm, 90, rfl⟩
abbrev main_call4_v7 : Ref sig .tc := ⟨.hbm, 91, rfl⟩
abbrev main_call4_v8 : Ref sig .tc := ⟨.hbm, 92, rfl⟩
abbrev main_call4_c_3 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_v12 : Ref sig .tc := ⟨.hbm, 97, rfl⟩
abbrev main_call4_v13 : Ref sig .tc := ⟨.hbm, 98, rfl⟩
abbrev main_call4_v14 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_cst_5 : Ref sig .tc := ⟨.hbm, 103, rfl⟩
abbrev main_cst_6 : Ref sig .tc := ⟨.hbm, 104, rfl⟩
abbrev main_call5_v0 : Ref sig .tc := ⟨.hbm, 105, rfl⟩
abbrev main_call5_v1 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 32], ![false, false]⟩

def k0_off1 (i : grid0.Coords) : Fin 4 → Nat :=
  let c0_59 : Index := 0#32
  let arg1 : BitVec 32 := BitVec.ofNat 32 (i 1).val
  let v198 : Index := Scalar.indexCast arg1
  let c0_60 : Index := 0#32
  let c0_61 : Index := 0#32
  ![0, v198.toNat, 0, 0]
def k0_off2 (i : grid0.Coords) : Fin 4 → Nat :=
  let c0_62 : Index := 0#32
  let arg1 : BitVec 32 := BitVec.ofNat 32 (i 1).val
  let v205 : Index := Scalar.indexCast arg1
  let c0_63 : Index := 0#32
  let c0_64 : Index := 0#32
  ![0, v205.toNat, 0, 0]
def k0_off3 (i : grid0.Coords) : Fin 4 → Nat :=
  let c1 : Index := 1#32
  let arg1 : BitVec 32 := BitVec.ofNat 32 (i 1).val
  let v307 : Index := Scalar.indexCast arg1
  let c0_95 : Index := 0#32
  let c0_96 : Index := 0#32
  ![1, v307.toNat, 0, 0]
def k0_off4 (i : grid0.Coords) : Fin 4 → Nat :=
  let c1_97 : Index := 1#32
  let arg1 : BitVec 32 := BitVec.ofNat 32 (i 1).val
  let v314 : Index := Scalar.indexCast arg1
  let c0_98 : Index := 0#32
  let c0_99 : Index := 0#32
  ![1, v314.toNat, 0, 0]
def k0_off5 (i : grid0.Coords) : Fin 4 → Nat :=
  let c2 : Index := 2#32
  let arg1 : BitVec 32 := BitVec.ofNat 32 (i 1).val
  let v416 : Index := Scalar.indexCast arg1
  let c0_130 : Index := 0#32
  let c0_131 : Index := 0#32
  ![2, v416.toNat, 0, 0]
def k0_off6 (i : grid0.Coords) : Fin 4 → Nat :=
  let c2_132 : Index := 2#32
  let arg1 : BitVec 32 := BitVec.ofNat 32 (i 1).val
  let v423 : Index := Scalar.indexCast arg1
  let c0_133 : Index := 0#32
  let c0_134 : Index := 0#32
  ![2, v423.toNat, 0, 0]
def k0_off7 (i : grid0.Coords) : Fin 4 → Nat :=
  let c3 : Index := 3#32
  let arg1 : BitVec 32 := BitVec.ofNat 32 (i 1).val
  let v525 : Index := Scalar.indexCast arg1
  let c0_165 : Index := 0#32
  let c0_166 : Index := 0#32
  ![3, v525.toNat, 0, 0]
def k0_off8 (i : grid0.Coords) : Fin 4 → Nat :=
  let c3_167 : Index := 3#32
  let arg1 : BitVec 32 := BitVec.ofNat 32 (i 1).val
  let v532 : Index := Scalar.indexCast arg1
  let c0_168 : Index := 0#32
  let c0_169 : Index := 0#32
  ![3, v532.toNat, 0, 0]
def k0_off9 (i : grid0.Coords) : Fin 4 → Nat :=
  let c4 : Index := 4#32
  let arg1 : BitVec 32 := BitVec.ofNat 32 (i 1).val
  let v634 : Index := Scalar.indexCast arg1
  let c0_200 : Index := 0#32
  let c0_201 : Index := 0#32
  ![4, v634.toNat, 0, 0]
def k0_off10 (i : grid0.Coords) : Fin 4 → Nat :=
  let c4_202 : Index := 4#32
  let arg1 : BitVec 32 := BitVec.ofNat 32 (i 1).val
  let v641 : Index := Scalar.indexCast arg1
  let c0_203 : Index := 0#32
  let c0_204 : Index := 0#32
  ![4, v641.toNat, 0, 0]
def k0_off11 (i : grid0.Coords) : Fin 4 → Nat :=
  let c5 : Index := 5#32
  let arg1 : BitVec 32 := BitVec.ofNat 32 (i 1).val
  let v743 : Index := Scalar.indexCast arg1
  let c0_235 : Index := 0#32
  let c0_236 : Index := 0#32
  ![5, v743.toNat, 0, 0]
def k0_off12 (i : grid0.Coords) : Fin 4 → Nat :=
  let c5_237 : Index := 5#32
  let arg1 : BitVec 32 := BitVec.ofNat 32 (i 1).val
  let v750 : Index := Scalar.indexCast arg1
  let c0_238 : Index := 0#32
  let c0_239 : Index := 0#32
  ![5, v750.toNat, 0, 0]
def k0_off13 (i : grid0.Coords) : Fin 4 → Nat :=
  let c6 : Index := 6#32
  let arg1 : BitVec 32 := BitVec.ofNat 32 (i 1).val
  let v852 : Index := Scalar.indexCast arg1
  let c0_270 : Index := 0#32
  let c0_271 : Index := 0#32
  ![6, v852.toNat, 0, 0]
def k0_off14 (i : grid0.Coords) : Fin 4 → Nat :=
  let c6_272 : Index := 6#32
  let arg1 : BitVec 32 := BitVec.ofNat 32 (i 1).val
  let v859 : Index := Scalar.indexCast arg1
  let c0_273 : Index := 0#32
  let c0_274 : Index := 0#32
  ![6, v859.toNat, 0, 0]
def k0_off15 (i : grid0.Coords) : Fin 4 → Nat :=
  let c7 : Index := 7#32
  let arg1 : BitVec 32 := BitVec.ofNat 32 (i 1).val
  let v961 : Index := Scalar.indexCast arg1
  let c0_305 : Index := 0#32
  let c0_306 : Index := 0#32
  ![7, v961.toNat, 0, 0]
def k0_off16 (i : grid0.Coords) : Fin 4 → Nat :=
  let c7_307 : Index := 7#32
  let arg1 : BitVec 32 := BitVec.ofNat 32 (i 1).val
  let v968 : Index := Scalar.indexCast arg1
  let c0_308 : Index := 0#32
  let c0_309 : Index := 0#32
  ![7, v968.toNat, 0, 0]
@[reducible] def k0_t1_loop (i : grid0.Coords) : Scf.Loop 32 :=
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_544 : BitVec 32 := 1#32
  ⟨c0_i32_542, v1260, c1_i32_544⟩
def k0_off17 (i : grid0.Coords) (k0_t1 : Fin (k0_t1_loop i).trips) : Fin 4 → Nat :=
  let c0_597 : Index := 0#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_596 : BitVec 32 := 1#32
  let v1355 : BitVec 32 := Scalar.addi v1354 c1_i32_596
  let v1356 : Index := Scalar.indexCast v1355
  let c0_598 : Index := 0#32
  let c0_599 : Index := 0#32
  ![0, v1356.toNat, 0, 0]
def k0_off18 (i : grid0.Coords) (k0_t1 : Fin (k0_t1_loop i).trips) : Fin 4 → Nat :=
  let c0_623 : Index := 0#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let v1388 : Index := Scalar.indexCast v1354
  let c0_624 : Index := 0#32
  let c0_625 : Index := 0#32
  ![0, v1388.toNat, 0, 0]
def k0_off19 (i : grid0.Coords) (k0_t1 : Fin (k0_t1_loop i).trips) : Fin 4 → Nat :=
  let c1_630 : Index := 1#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_596 : BitVec 32 := 1#32
  let v1355 : BitVec 32 := Scalar.addi v1354 c1_i32_596
  let v1396 : Index := Scalar.indexCast v1355
  let c0_631 : Index := 0#32
  let c0_632 : Index := 0#32
  ![1, v1396.toNat, 0, 0]
def k0_off20 (i : grid0.Coords) (k0_t1 : Fin (k0_t1_loop i).trips) : Fin 4 → Nat :=
  let c1_656 : Index := 1#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let v1428 : Index := Scalar.indexCast v1354
  let c0_657 : Index := 0#32
  let c0_658 : Index := 0#32
  ![1, v1428.toNat, 0, 0]
def k0_off21 (i : grid0.Coords) (k0_t1 : Fin (k0_t1_loop i).trips) : Fin 4 → Nat :=
  let c2_663 : Index := 2#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_596 : BitVec 32 := 1#32
  let v1355 : BitVec 32 := Scalar.addi v1354 c1_i32_596
  let v1436 : Index := Scalar.indexCast v1355
  let c0_664 : Index := 0#32
  let c0_665 : Index := 0#32
  ![2, v1436.toNat, 0, 0]
def k0_off22 (i : grid0.Coords) (k0_t1 : Fin (k0_t1_loop i).trips) : Fin 4 → Nat :=
  let c2_689 : Index := 2#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let v1468 : Index := Scalar.indexCast v1354
  let c0_690 : Index := 0#32
  let c0_691 : Index := 0#32
  ![2, v1468.toNat, 0, 0]
def k0_off23 (i : grid0.Coords) (k0_t1 : Fin (k0_t1_loop i).trips) : Fin 4 → Nat :=
  let c3_696 : Index := 3#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_596 : BitVec 32 := 1#32
  let v1355 : BitVec 32 := Scalar.addi v1354 c1_i32_596
  let v1476 : Index := Scalar.indexCast v1355
  let c0_697 : Index := 0#32
  let c0_698 : Index := 0#32
  ![3, v1476.toNat, 0, 0]
def k0_off24 (i : grid0.Coords) (k0_t1 : Fin (k0_t1_loop i).trips) : Fin 4 → Nat :=
  let c3_722 : Index := 3#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let v1508 : Index := Scalar.indexCast v1354
  let c0_723 : Index := 0#32
  let c0_724 : Index := 0#32
  ![3, v1508.toNat, 0, 0]
def k0_off25 (i : grid0.Coords) (k0_t1 : Fin (k0_t1_loop i).trips) : Fin 4 → Nat :=
  let c4_729 : Index := 4#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_596 : BitVec 32 := 1#32
  let v1355 : BitVec 32 := Scalar.addi v1354 c1_i32_596
  let v1516 : Index := Scalar.indexCast v1355
  let c0_730 : Index := 0#32
  let c0_731 : Index := 0#32
  ![4, v1516.toNat, 0, 0]
def k0_off26 (i : grid0.Coords) (k0_t1 : Fin (k0_t1_loop i).trips) : Fin 4 → Nat :=
  let c4_755 : Index := 4#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let v1548 : Index := Scalar.indexCast v1354
  let c0_756 : Index := 0#32
  let c0_757 : Index := 0#32
  ![4, v1548.toNat, 0, 0]
def k0_off27 (i : grid0.Coords) (k0_t1 : Fin (k0_t1_loop i).trips) : Fin 4 → Nat :=
  let c5_762 : Index := 5#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_596 : BitVec 32 := 1#32
  let v1355 : BitVec 32 := Scalar.addi v1354 c1_i32_596
  let v1556 : Index := Scalar.indexCast v1355
  let c0_763 : Index := 0#32
  let c0_764 : Index := 0#32
  ![5, v1556.toNat, 0, 0]
def k0_off28 (i : grid0.Coords) (k0_t1 : Fin (k0_t1_loop i).trips) : Fin 4 → Nat :=
  let c5_788 : Index := 5#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let v1588 : Index := Scalar.indexCast v1354
  let c0_789 : Index := 0#32
  let c0_790 : Index := 0#32
  ![5, v1588.toNat, 0, 0]
def k0_off29 (i : grid0.Coords) (k0_t1 : Fin (k0_t1_loop i).trips) : Fin 4 → Nat :=
  let c6_795 : Index := 6#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_596 : BitVec 32 := 1#32
  let v1355 : BitVec 32 := Scalar.addi v1354 c1_i32_596
  let v1596 : Index := Scalar.indexCast v1355
  let c0_796 : Index := 0#32
  let c0_797 : Index := 0#32
  ![6, v1596.toNat, 0, 0]
def k0_off30 (i : grid0.Coords) (k0_t1 : Fin (k0_t1_loop i).trips) : Fin 4 → Nat :=
  let c6_821 : Index := 6#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let v1628 : Index := Scalar.indexCast v1354
  let c0_822 : Index := 0#32
  let c0_823 : Index := 0#32
  ![6, v1628.toNat, 0, 0]
def k0_off31 (i : grid0.Coords) (k0_t1 : Fin (k0_t1_loop i).trips) : Fin 4 → Nat :=
  let c7_828 : Index := 7#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_596 : BitVec 32 := 1#32
  let v1355 : BitVec 32 := Scalar.addi v1354 c1_i32_596
  let v1636 : Index := Scalar.indexCast v1355
  let c0_829 : Index := 0#32
  let c0_830 : Index := 0#32
  ![7, v1636.toNat, 0, 0]
def k0_off32 (i : grid0.Coords) (k0_t1 : Fin (k0_t1_loop i).trips) : Fin 4 → Nat :=
  let c7_854 : Index := 7#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let v1668 : Index := Scalar.indexCast v1354
  let c0_855 : Index := 0#32
  let c0_856 : Index := 0#32
  ![7, v1668.toNat, 0, 0]
def k0_off33 (i : grid0.Coords) (k0_t1 : Fin (k0_t1_loop i).trips) : Fin 4 → Nat :=
  let c0_864 : Index := 0#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c2_i32_861 : BitVec 32 := 2#32
  let v1676 : BitVec 32 := Scalar.addi v1354 c2_i32_861
  let arg1 : BitVec 32 := BitVec.ofNat 32 (i 1).val
  let c1_i32_862 : BitVec 32 := 1#32
  let v1677 : BitVec 32 := Scalar.subi arg1 c1_i32_862
  let v1678 : BitVec 32 := Scalar.minsi v1676 v1677
  let v1680 : Index := Scalar.indexCast v1678
  let c0_865 : Index := 0#32
  let c0_866 : Index := 0#32
  ![0, v1680.toNat, 0, 0]
def k0_off34 (i : grid0.Coords) (k0_t1 : Fin (k0_t1_loop i).trips) : Fin 4 → Nat :=
  let c0_890 : Index := 0#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_863 : BitVec 32 := 1#32
  let v1679 : BitVec 32 := Scalar.addi v1354 c1_i32_863
  let v1712 : Index := Scalar.indexCast v1679
  let c0_891 : Index := 0#32
  let c0_892 : Index := 0#32
  ![0, v1712.toNat, 0, 0]
def k0_off35 (i : grid0.Coords) (k0_t1 : Fin (k0_t1_loop i).trips) : Fin 4 → Nat :=
  let c1_897 : Index := 1#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c2_i32_861 : BitVec 32 := 2#32
  let v1676 : BitVec 32 := Scalar.addi v1354 c2_i32_861
  let arg1 : BitVec 32 := BitVec.ofNat 32 (i 1).val
  let c1_i32_862 : BitVec 32 := 1#32
  let v1677 : BitVec 32 := Scalar.subi arg1 c1_i32_862
  let v1678 : BitVec 32 := Scalar.minsi v1676 v1677
  let v1720 : Index := Scalar.indexCast v1678
  let c0_898 : Index := 0#32
  let c0_899 : Index := 0#32
  ![1, v1720.toNat, 0, 0]
def k0_off36 (i : grid0.Coords) (k0_t1 : Fin (k0_t1_loop i).trips) : Fin 4 → Nat :=
  let c1_923 : Index := 1#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_863 : BitVec 32 := 1#32
  let v1679 : BitVec 32 := Scalar.addi v1354 c1_i32_863
  let v1752 : Index := Scalar.indexCast v1679
  let c0_924 : Index := 0#32
  let c0_925 : Index := 0#32
  ![1, v1752.toNat, 0, 0]
def k0_off37 (i : grid0.Coords) (k0_t1 : Fin (k0_t1_loop i).trips) : Fin 4 → Nat :=
  let c2_930 : Index := 2#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c2_i32_861 : BitVec 32 := 2#32
  let v1676 : BitVec 32 := Scalar.addi v1354 c2_i32_861
  let arg1 : BitVec 32 := BitVec.ofNat 32 (i 1).val
  let c1_i32_862 : BitVec 32 := 1#32
  let v1677 : BitVec 32 := Scalar.subi arg1 c1_i32_862
  let v1678 : BitVec 32 := Scalar.minsi v1676 v1677
  let v1760 : Index := Scalar.indexCast v1678
  let c0_931 : Index := 0#32
  let c0_932 : Index := 0#32
  ![2, v1760.toNat, 0, 0]
def k0_off38 (i : grid0.Coords) (k0_t1 : Fin (k0_t1_loop i).trips) : Fin 4 → Nat :=
  let c2_956 : Index := 2#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_863 : BitVec 32 := 1#32
  let v1679 : BitVec 32 := Scalar.addi v1354 c1_i32_863
  let v1792 : Index := Scalar.indexCast v1679
  let c0_957 : Index := 0#32
  let c0_958 : Index := 0#32
  ![2, v1792.toNat, 0, 0]
def k0_off39 (i : grid0.Coords) (k0_t1 : Fin (k0_t1_loop i).trips) : Fin 4 → Nat :=
  let c3_963 : Index := 3#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c2_i32_861 : BitVec 32 := 2#32
  let v1676 : BitVec 32 := Scalar.addi v1354 c2_i32_861
  let arg1 : BitVec 32 := BitVec.ofNat 32 (i 1).val
  let c1_i32_862 : BitVec 32 := 1#32
  let v1677 : BitVec 32 := Scalar.subi arg1 c1_i32_862
  let v1678 : BitVec 32 := Scalar.minsi v1676 v1677
  let v1800 : Index := Scalar.indexCast v1678
  let c0_964 : Index := 0#32
  let c0_965 : Index := 0#32
  ![3, v1800.toNat, 0, 0]
def k0_off40 (i : grid0.Coords) (k0_t1 : Fin (k0_t1_loop i).trips) : Fin 4 → Nat :=
  let c3_989 : Index := 3#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_863 : BitVec 32 := 1#32
  let v1679 : BitVec 32 := Scalar.addi v1354 c1_i32_863
  let v1832 : Index := Scalar.indexCast v1679
  let c0_990 : Index := 0#32
  let c0_991 : Index := 0#32
  ![3, v1832.toNat, 0, 0]
def k0_off41 (i : grid0.Coords) (k0_t1 : Fin (k0_t1_loop i).trips) : Fin 4 → Nat :=
  let c4_996 : Index := 4#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c2_i32_861 : BitVec 32 := 2#32
  let v1676 : BitVec 32 := Scalar.addi v1354 c2_i32_861
  let arg1 : BitVec 32 := BitVec.ofNat 32 (i 1).val
  let c1_i32_862 : BitVec 32 := 1#32
  let v1677 : BitVec 32 := Scalar.subi arg1 c1_i32_862
  let v1678 : BitVec 32 := Scalar.minsi v1676 v1677
  let v1840 : Index := Scalar.indexCast v1678
  let c0_997 : Index := 0#32
  let c0_998 : Index := 0#32
  ![4, v1840.toNat, 0, 0]
def k0_off42 (i : grid0.Coords) (k0_t1 : Fin (k0_t1_loop i).trips) : Fin 4 → Nat :=
  let c4_1022 : Index := 4#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_863 : BitVec 32 := 1#32
  let v1679 : BitVec 32 := Scalar.addi v1354 c1_i32_863
  let v1872 : Index := Scalar.indexCast v1679
  let c0_1023 : Index := 0#32
  let c0_1024 : Index := 0#32
  ![4, v1872.toNat, 0, 0]
def k0_off43 (i : grid0.Coords) (k0_t1 : Fin (k0_t1_loop i).trips) : Fin 4 → Nat :=
  let c5_1029 : Index := 5#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c2_i32_861 : BitVec 32 := 2#32
  let v1676 : BitVec 32 := Scalar.addi v1354 c2_i32_861
  let arg1 : BitVec 32 := BitVec.ofNat 32 (i 1).val
  let c1_i32_862 : BitVec 32 := 1#32
  let v1677 : BitVec 32 := Scalar.subi arg1 c1_i32_862
  let v1678 : BitVec 32 := Scalar.minsi v1676 v1677
  let v1880 : Index := Scalar.indexCast v1678
  let c0_1030 : Index := 0#32
  let c0_1031 : Index := 0#32
  ![5, v1880.toNat, 0, 0]
def k0_off44 (i : grid0.Coords) (k0_t1 : Fin (k0_t1_loop i).trips) : Fin 4 → Nat :=
  let c5_1055 : Index := 5#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_863 : BitVec 32 := 1#32
  let v1679 : BitVec 32 := Scalar.addi v1354 c1_i32_863
  let v1912 : Index := Scalar.indexCast v1679
  let c0_1056 : Index := 0#32
  let c0_1057 : Index := 0#32
  ![5, v1912.toNat, 0, 0]
def k0_off45 (i : grid0.Coords) (k0_t1 : Fin (k0_t1_loop i).trips) : Fin 4 → Nat :=
  let c6_1062 : Index := 6#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c2_i32_861 : BitVec 32 := 2#32
  let v1676 : BitVec 32 := Scalar.addi v1354 c2_i32_861
  let arg1 : BitVec 32 := BitVec.ofNat 32 (i 1).val
  let c1_i32_862 : BitVec 32 := 1#32
  let v1677 : BitVec 32 := Scalar.subi arg1 c1_i32_862
  let v1678 : BitVec 32 := Scalar.minsi v1676 v1677
  let v1920 : Index := Scalar.indexCast v1678
  let c0_1063 : Index := 0#32
  let c0_1064 : Index := 0#32
  ![6, v1920.toNat, 0, 0]
def k0_off46 (i : grid0.Coords) (k0_t1 : Fin (k0_t1_loop i).trips) : Fin 4 → Nat :=
  let c6_1088 : Index := 6#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_863 : BitVec 32 := 1#32
  let v1679 : BitVec 32 := Scalar.addi v1354 c1_i32_863
  let v1952 : Index := Scalar.indexCast v1679
  let c0_1089 : Index := 0#32
  let c0_1090 : Index := 0#32
  ![6, v1952.toNat, 0, 0]
def k0_off47 (i : grid0.Coords) (k0_t1 : Fin (k0_t1_loop i).trips) : Fin 4 → Nat :=
  let c7_1095 : Index := 7#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c2_i32_861 : BitVec 32 := 2#32
  let v1676 : BitVec 32 := Scalar.addi v1354 c2_i32_861
  let arg1 : BitVec 32 := BitVec.ofNat 32 (i 1).val
  let c1_i32_862 : BitVec 32 := 1#32
  let v1677 : BitVec 32 := Scalar.subi arg1 c1_i32_862
  let v1678 : BitVec 32 := Scalar.minsi v1676 v1677
  let v1960 : Index := Scalar.indexCast v1678
  let c0_1096 : Index := 0#32
  let c0_1097 : Index := 0#32
  ![7, v1960.toNat, 0, 0]
def k0_off48 (i : grid0.Coords) (k0_t1 : Fin (k0_t1_loop i).trips) : Fin 4 → Nat :=
  let c7_1121 : Index := 7#32
  let c2_i32_595 : BitVec 32 := 2#32
  let c0_i32_542 : BitVec 32 := 0#32
  let c1_i32_544 : BitVec 32 := 1#32
  let arg19 : BitVec 32 := Scf.iv c0_i32_542 c1_i32_544 k0_t1
  let v1354 : BitVec 32 := Scalar.muli c2_i32_595 arg19
  let c1_i32_863 : BitVec 32 := 1#32
  let v1679 : BitVec 32 := Scalar.addi v1354 c1_i32_863
  let v1992 : Index := Scalar.indexCast v1679
  let c0_1122 : Index := 0#32
  let c0_1123 : Index := 0#32
  ![7, v1992.toNat, 0, 0]
@[reducible] def k0_t2_loop (i : grid0.Coords) : Scf.Loop 32 :=
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let v1257 : BitVec 32 := Scalar.addi c0_i32_542 v1256
  let c1_i32_545 : BitVec 32 := 1#32
  ⟨v1260, v1257, c1_i32_545⟩
def k0_off49 (i : grid0.Coords) (k0_t2 : Fin (k0_t2_loop i).trips) : Fin 4 → Nat :=
  let c0_597 : Index := 0#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_596 : BitVec 32 := 1#32
  let v1355 : BitVec 32 := Scalar.addi v1354 c1_i32_596
  let v1356 : Index := Scalar.indexCast v1355
  let c0_598 : Index := 0#32
  let c0_599 : Index := 0#32
  ![0, v1356.toNat, 0, 0]
def k0_off50 (i : grid0.Coords) (k0_t2 : Fin (k0_t2_loop i).trips) : Fin 4 → Nat :=
  let c0_623 : Index := 0#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let v1388 : Index := Scalar.indexCast v1354
  let c0_624 : Index := 0#32
  let c0_625 : Index := 0#32
  ![0, v1388.toNat, 0, 0]
def k0_off51 (i : grid0.Coords) (k0_t2 : Fin (k0_t2_loop i).trips) : Fin 4 → Nat :=
  let c1_630 : Index := 1#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_596 : BitVec 32 := 1#32
  let v1355 : BitVec 32 := Scalar.addi v1354 c1_i32_596
  let v1396 : Index := Scalar.indexCast v1355
  let c0_631 : Index := 0#32
  let c0_632 : Index := 0#32
  ![1, v1396.toNat, 0, 0]
def k0_off52 (i : grid0.Coords) (k0_t2 : Fin (k0_t2_loop i).trips) : Fin 4 → Nat :=
  let c1_656 : Index := 1#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let v1428 : Index := Scalar.indexCast v1354
  let c0_657 : Index := 0#32
  let c0_658 : Index := 0#32
  ![1, v1428.toNat, 0, 0]
def k0_off53 (i : grid0.Coords) (k0_t2 : Fin (k0_t2_loop i).trips) : Fin 4 → Nat :=
  let c2_663 : Index := 2#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_596 : BitVec 32 := 1#32
  let v1355 : BitVec 32 := Scalar.addi v1354 c1_i32_596
  let v1436 : Index := Scalar.indexCast v1355
  let c0_664 : Index := 0#32
  let c0_665 : Index := 0#32
  ![2, v1436.toNat, 0, 0]
def k0_off54 (i : grid0.Coords) (k0_t2 : Fin (k0_t2_loop i).trips) : Fin 4 → Nat :=
  let c2_689 : Index := 2#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let v1468 : Index := Scalar.indexCast v1354
  let c0_690 : Index := 0#32
  let c0_691 : Index := 0#32
  ![2, v1468.toNat, 0, 0]
def k0_off55 (i : grid0.Coords) (k0_t2 : Fin (k0_t2_loop i).trips) : Fin 4 → Nat :=
  let c3_696 : Index := 3#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_596 : BitVec 32 := 1#32
  let v1355 : BitVec 32 := Scalar.addi v1354 c1_i32_596
  let v1476 : Index := Scalar.indexCast v1355
  let c0_697 : Index := 0#32
  let c0_698 : Index := 0#32
  ![3, v1476.toNat, 0, 0]
def k0_off56 (i : grid0.Coords) (k0_t2 : Fin (k0_t2_loop i).trips) : Fin 4 → Nat :=
  let c3_722 : Index := 3#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let v1508 : Index := Scalar.indexCast v1354
  let c0_723 : Index := 0#32
  let c0_724 : Index := 0#32
  ![3, v1508.toNat, 0, 0]
def k0_off57 (i : grid0.Coords) (k0_t2 : Fin (k0_t2_loop i).trips) : Fin 4 → Nat :=
  let c4_729 : Index := 4#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_596 : BitVec 32 := 1#32
  let v1355 : BitVec 32 := Scalar.addi v1354 c1_i32_596
  let v1516 : Index := Scalar.indexCast v1355
  let c0_730 : Index := 0#32
  let c0_731 : Index := 0#32
  ![4, v1516.toNat, 0, 0]
def k0_off58 (i : grid0.Coords) (k0_t2 : Fin (k0_t2_loop i).trips) : Fin 4 → Nat :=
  let c4_755 : Index := 4#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let v1548 : Index := Scalar.indexCast v1354
  let c0_756 : Index := 0#32
  let c0_757 : Index := 0#32
  ![4, v1548.toNat, 0, 0]
def k0_off59 (i : grid0.Coords) (k0_t2 : Fin (k0_t2_loop i).trips) : Fin 4 → Nat :=
  let c5_762 : Index := 5#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_596 : BitVec 32 := 1#32
  let v1355 : BitVec 32 := Scalar.addi v1354 c1_i32_596
  let v1556 : Index := Scalar.indexCast v1355
  let c0_763 : Index := 0#32
  let c0_764 : Index := 0#32
  ![5, v1556.toNat, 0, 0]
def k0_off60 (i : grid0.Coords) (k0_t2 : Fin (k0_t2_loop i).trips) : Fin 4 → Nat :=
  let c5_788 : Index := 5#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let v1588 : Index := Scalar.indexCast v1354
  let c0_789 : Index := 0#32
  let c0_790 : Index := 0#32
  ![5, v1588.toNat, 0, 0]
def k0_off61 (i : grid0.Coords) (k0_t2 : Fin (k0_t2_loop i).trips) : Fin 4 → Nat :=
  let c6_795 : Index := 6#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_596 : BitVec 32 := 1#32
  let v1355 : BitVec 32 := Scalar.addi v1354 c1_i32_596
  let v1596 : Index := Scalar.indexCast v1355
  let c0_796 : Index := 0#32
  let c0_797 : Index := 0#32
  ![6, v1596.toNat, 0, 0]
def k0_off62 (i : grid0.Coords) (k0_t2 : Fin (k0_t2_loop i).trips) : Fin 4 → Nat :=
  let c6_821 : Index := 6#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let v1628 : Index := Scalar.indexCast v1354
  let c0_822 : Index := 0#32
  let c0_823 : Index := 0#32
  ![6, v1628.toNat, 0, 0]
def k0_off63 (i : grid0.Coords) (k0_t2 : Fin (k0_t2_loop i).trips) : Fin 4 → Nat :=
  let c7_828 : Index := 7#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_596 : BitVec 32 := 1#32
  let v1355 : BitVec 32 := Scalar.addi v1354 c1_i32_596
  let v1636 : Index := Scalar.indexCast v1355
  let c0_829 : Index := 0#32
  let c0_830 : Index := 0#32
  ![7, v1636.toNat, 0, 0]
def k0_off64 (i : grid0.Coords) (k0_t2 : Fin (k0_t2_loop i).trips) : Fin 4 → Nat :=
  let c7_854 : Index := 7#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let v1668 : Index := Scalar.indexCast v1354
  let c0_855 : Index := 0#32
  let c0_856 : Index := 0#32
  ![7, v1668.toNat, 0, 0]
def k0_off65 (i : grid0.Coords) (k0_t2 : Fin (k0_t2_loop i).trips) : Fin 4 → Nat :=
  let c0_864 : Index := 0#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c2_i32_861 : BitVec 32 := 2#32
  let v1676 : BitVec 32 := Scalar.addi v1354 c2_i32_861
  let c1_i32_862 : BitVec 32 := 1#32
  let v1677 : BitVec 32 := Scalar.subi arg1 c1_i32_862
  let v1678 : BitVec 32 := Scalar.minsi v1676 v1677
  let v1680 : Index := Scalar.indexCast v1678
  let c0_865 : Index := 0#32
  let c0_866 : Index := 0#32
  ![0, v1680.toNat, 0, 0]
def k0_off66 (i : grid0.Coords) (k0_t2 : Fin (k0_t2_loop i).trips) : Fin 4 → Nat :=
  let c0_890 : Index := 0#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_863 : BitVec 32 := 1#32
  let v1679 : BitVec 32 := Scalar.addi v1354 c1_i32_863
  let v1712 : Index := Scalar.indexCast v1679
  let c0_891 : Index := 0#32
  let c0_892 : Index := 0#32
  ![0, v1712.toNat, 0, 0]
def k0_off67 (i : grid0.Coords) (k0_t2 : Fin (k0_t2_loop i).trips) : Fin 4 → Nat :=
  let c1_897 : Index := 1#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c2_i32_861 : BitVec 32 := 2#32
  let v1676 : BitVec 32 := Scalar.addi v1354 c2_i32_861
  let c1_i32_862 : BitVec 32 := 1#32
  let v1677 : BitVec 32 := Scalar.subi arg1 c1_i32_862
  let v1678 : BitVec 32 := Scalar.minsi v1676 v1677
  let v1720 : Index := Scalar.indexCast v1678
  let c0_898 : Index := 0#32
  let c0_899 : Index := 0#32
  ![1, v1720.toNat, 0, 0]
def k0_off68 (i : grid0.Coords) (k0_t2 : Fin (k0_t2_loop i).trips) : Fin 4 → Nat :=
  let c1_923 : Index := 1#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_863 : BitVec 32 := 1#32
  let v1679 : BitVec 32 := Scalar.addi v1354 c1_i32_863
  let v1752 : Index := Scalar.indexCast v1679
  let c0_924 : Index := 0#32
  let c0_925 : Index := 0#32
  ![1, v1752.toNat, 0, 0]
def k0_off69 (i : grid0.Coords) (k0_t2 : Fin (k0_t2_loop i).trips) : Fin 4 → Nat :=
  let c2_930 : Index := 2#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c2_i32_861 : BitVec 32 := 2#32
  let v1676 : BitVec 32 := Scalar.addi v1354 c2_i32_861
  let c1_i32_862 : BitVec 32 := 1#32
  let v1677 : BitVec 32 := Scalar.subi arg1 c1_i32_862
  let v1678 : BitVec 32 := Scalar.minsi v1676 v1677
  let v1760 : Index := Scalar.indexCast v1678
  let c0_931 : Index := 0#32
  let c0_932 : Index := 0#32
  ![2, v1760.toNat, 0, 0]
def k0_off70 (i : grid0.Coords) (k0_t2 : Fin (k0_t2_loop i).trips) : Fin 4 → Nat :=
  let c2_956 : Index := 2#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_863 : BitVec 32 := 1#32
  let v1679 : BitVec 32 := Scalar.addi v1354 c1_i32_863
  let v1792 : Index := Scalar.indexCast v1679
  let c0_957 : Index := 0#32
  let c0_958 : Index := 0#32
  ![2, v1792.toNat, 0, 0]
def k0_off71 (i : grid0.Coords) (k0_t2 : Fin (k0_t2_loop i).trips) : Fin 4 → Nat :=
  let c3_963 : Index := 3#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c2_i32_861 : BitVec 32 := 2#32
  let v1676 : BitVec 32 := Scalar.addi v1354 c2_i32_861
  let c1_i32_862 : BitVec 32 := 1#32
  let v1677 : BitVec 32 := Scalar.subi arg1 c1_i32_862
  let v1678 : BitVec 32 := Scalar.minsi v1676 v1677
  let v1800 : Index := Scalar.indexCast v1678
  let c0_964 : Index := 0#32
  let c0_965 : Index := 0#32
  ![3, v1800.toNat, 0, 0]
def k0_off72 (i : grid0.Coords) (k0_t2 : Fin (k0_t2_loop i).trips) : Fin 4 → Nat :=
  let c3_989 : Index := 3#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_863 : BitVec 32 := 1#32
  let v1679 : BitVec 32 := Scalar.addi v1354 c1_i32_863
  let v1832 : Index := Scalar.indexCast v1679
  let c0_990 : Index := 0#32
  let c0_991 : Index := 0#32
  ![3, v1832.toNat, 0, 0]
def k0_off73 (i : grid0.Coords) (k0_t2 : Fin (k0_t2_loop i).trips) : Fin 4 → Nat :=
  let c4_996 : Index := 4#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c2_i32_861 : BitVec 32 := 2#32
  let v1676 : BitVec 32 := Scalar.addi v1354 c2_i32_861
  let c1_i32_862 : BitVec 32 := 1#32
  let v1677 : BitVec 32 := Scalar.subi arg1 c1_i32_862
  let v1678 : BitVec 32 := Scalar.minsi v1676 v1677
  let v1840 : Index := Scalar.indexCast v1678
  let c0_997 : Index := 0#32
  let c0_998 : Index := 0#32
  ![4, v1840.toNat, 0, 0]
def k0_off74 (i : grid0.Coords) (k0_t2 : Fin (k0_t2_loop i).trips) : Fin 4 → Nat :=
  let c4_1022 : Index := 4#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_863 : BitVec 32 := 1#32
  let v1679 : BitVec 32 := Scalar.addi v1354 c1_i32_863
  let v1872 : Index := Scalar.indexCast v1679
  let c0_1023 : Index := 0#32
  let c0_1024 : Index := 0#32
  ![4, v1872.toNat, 0, 0]
def k0_off75 (i : grid0.Coords) (k0_t2 : Fin (k0_t2_loop i).trips) : Fin 4 → Nat :=
  let c5_1029 : Index := 5#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c2_i32_861 : BitVec 32 := 2#32
  let v1676 : BitVec 32 := Scalar.addi v1354 c2_i32_861
  let c1_i32_862 : BitVec 32 := 1#32
  let v1677 : BitVec 32 := Scalar.subi arg1 c1_i32_862
  let v1678 : BitVec 32 := Scalar.minsi v1676 v1677
  let v1880 : Index := Scalar.indexCast v1678
  let c0_1030 : Index := 0#32
  let c0_1031 : Index := 0#32
  ![5, v1880.toNat, 0, 0]
def k0_off76 (i : grid0.Coords) (k0_t2 : Fin (k0_t2_loop i).trips) : Fin 4 → Nat :=
  let c5_1055 : Index := 5#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_863 : BitVec 32 := 1#32
  let v1679 : BitVec 32 := Scalar.addi v1354 c1_i32_863
  let v1912 : Index := Scalar.indexCast v1679
  let c0_1056 : Index := 0#32
  let c0_1057 : Index := 0#32
  ![5, v1912.toNat, 0, 0]
def k0_off77 (i : grid0.Coords) (k0_t2 : Fin (k0_t2_loop i).trips) : Fin 4 → Nat :=
  let c6_1062 : Index := 6#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c2_i32_861 : BitVec 32 := 2#32
  let v1676 : BitVec 32 := Scalar.addi v1354 c2_i32_861
  let c1_i32_862 : BitVec 32 := 1#32
  let v1677 : BitVec 32 := Scalar.subi arg1 c1_i32_862
  let v1678 : BitVec 32 := Scalar.minsi v1676 v1677
  let v1920 : Index := Scalar.indexCast v1678
  let c0_1063 : Index := 0#32
  let c0_1064 : Index := 0#32
  ![6, v1920.toNat, 0, 0]
def k0_off78 (i : grid0.Coords) (k0_t2 : Fin (k0_t2_loop i).trips) : Fin 4 → Nat :=
  let c6_1088 : Index := 6#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_863 : BitVec 32 := 1#32
  let v1679 : BitVec 32 := Scalar.addi v1354 c1_i32_863
  let v1952 : Index := Scalar.indexCast v1679
  let c0_1089 : Index := 0#32
  let c0_1090 : Index := 0#32
  ![6, v1952.toNat, 0, 0]
def k0_off79 (i : grid0.Coords) (k0_t2 : Fin (k0_t2_loop i).trips) : Fin 4 → Nat :=
  let c7_1095 : Index := 7#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c2_i32_861 : BitVec 32 := 2#32
  let v1676 : BitVec 32 := Scalar.addi v1354 c2_i32_861
  let c1_i32_862 : BitVec 32 := 1#32
  let v1677 : BitVec 32 := Scalar.subi arg1 c1_i32_862
  let v1678 : BitVec 32 := Scalar.minsi v1676 v1677
  let v1960 : Index := Scalar.indexCast v1678
  let c0_1096 : Index := 0#32
  let c0_1097 : Index := 0#32
  ![7, v1960.toNat, 0, 0]
def k0_off80 (i : grid0.Coords) (k0_t2 : Fin (k0_t2_loop i).trips) : Fin 4 → Nat :=
  let c7_1121 : Index := 7#32
  let c2_i32_595 : BitVec 32 := 2#32
  let c0_i32_542 : BitVec 32 := 0#32
  let arg1 : BitVec 32 := BitVec.ofNat 32 (i 1).val
  let c0_i32_535 : BitVec 32 := 0#32
  let v1240 : BitVec 1 := Scalar.cmpi .sgt arg1 c0_i32_535
  let v1241 : BitVec 32 := Scalar.extui v1240
  let c0_i32_536 : BitVec 32 := 0#32
  let v1242 : BitVec 1 := Scalar.cmpi .slt arg1 c0_i32_536
  let v1243 : BitVec 32 := Scalar.extui v1242
  let v1244 : BitVec 32 := Scalar.subi v1241 v1243
  let c2_i32_534 : BitVec 32 := 2#32
  let c0_i32_537 : BitVec 32 := 0#32
  let v1245 : BitVec 1 := Scalar.cmpi .sgt c2_i32_534 c0_i32_537
  let v1246 : BitVec 32 := Scalar.extui v1245
  let c0_i32_538 : BitVec 32 := 0#32
  let v1247 : BitVec 1 := Scalar.cmpi .slt c2_i32_534 c0_i32_538
  let v1248 : BitVec 32 := Scalar.extui v1247
  let v1249 : BitVec 32 := Scalar.subi v1246 v1248
  let v1250 : BitVec 1 := Scalar.cmpi .ne v1244 v1249
  let v1251 : BitVec 32 := Scalar.remsi arg1 c2_i32_534
  let c0_i32_539 : BitVec 32 := 0#32
  let v1252 : BitVec 1 := Scalar.cmpi .ne v1251 c0_i32_539
  let v1253 : BitVec 1 := Scalar.andi v1250 v1252
  let v1239 : BitVec 32 := Scalar.divsi arg1 c2_i32_534
  let c1_i32_540 : BitVec 32 := 1#32
  let v1254 : BitVec 32 := Scalar.subi v1239 c1_i32_540
  let v1255 : BitVec 32 := Scalar.select v1253 v1254 v1239
  let v1256 : BitVec 32 := Scalar.subi v1255 c0_i32_542
  let c1_i32_543 : BitVec 32 := 1#32
  let v1258 : BitVec 32 := Scalar.divsi v1256 c1_i32_543
  let v1259 : BitVec 32 := Scalar.muli v1258 c1_i32_543
  let v1260 : BitVec 32 := Scalar.addi c0_i32_542 v1259
  let c1_i32_545 : BitVec 32 := 1#32
  let arg19 : BitVec 32 := Scf.iv v1260 c1_i32_545 k0_t2
  let v1354 : BitVec 32 := Scalar.muli c2_i32_595 arg19
  let c1_i32_863 : BitVec 32 := 1#32
  let v1679 : BitVec 32 := Scalar.addi v1354 c1_i32_863
  let v1992 : Index := Scalar.indexCast v1679
  let c0_1122 : Index := 0#32
  let c0_1123 : Index := 0#32
  ![7, v1992.toNat, 0, 0]
def k0_cond2 (i : grid0.Coords) : BitVec 1 :=
  let arg1 : BitVec 32 := BitVec.ofNat 32 (i 1).val
  let c2_i32_546 : BitVec 32 := 2#32
  let c0_i32_547 : BitVec 32 := 0#32
  let v1261 : BitVec 1 := Scalar.cmpi .eq c2_i32_546 c0_i32_547
  let c1_i32_548 : BitVec 32 := 1#32
  let v1262 : BitVec 32 := Scalar.select v1261 c1_i32_548 c2_i32_546
  let v1263 : BitVec 32 := Scalar.remsi arg1 v1262
  let c0_i32_550 : BitVec 32 := 0#32
  let v1265 : BitVec 1 := Scalar.cmpi .slt v1263 c0_i32_550
  let c0_i32_551 : BitVec 32 := 0#32
  let v1266 : BitVec 1 := Scalar.cmpi .slt v1262 c0_i32_551
  let v1267 : BitVec 1 := Scalar.xori v1265 v1266
  let c0_i32_549 : BitVec 32 := 0#32
  let v1264 : BitVec 1 := Scalar.cmpi .ne v1263 c0_i32_549
  let v1268 : BitVec 1 := Scalar.andi v1267 v1264
  let v1269 : BitVec 32 := Scalar.addi v1263 v1262
  let v1270 : BitVec 32 := Scalar.select v1268 v1269 v1263
  let c1_i32_552 : BitVec 32 := 1#32
  let v1271 : BitVec 1 := Scalar.cmpi .eq v1270 c1_i32_552
  let v1272 : BitVec 32 := Scalar.extui v1271
  let c0_i32_553 : BitVec 32 := 0#32
  let v1273 : BitVec 1 := Scalar.cmpi .ne v1272 c0_i32_553
  v1273

def k0_off81 (i : grid0.Coords) : Fin 4 → Nat :=
  let c0_611 : Index := 0#32
  let arg1 : BitVec 32 := BitVec.ofNat 32 (i 1).val
  let c1_i32_595 : BitVec 32 := 1#32
  let v1354 : BitVec 32 := Scalar.subi arg1 c1_i32_595
  let v1375 : Index := Scalar.indexCast v1354
  let c0_612 : Index := 0#32
  let c0_613 : Index := 0#32
  ![0, v1375.toNat, 0, 0]
def k0_off82 (i : grid0.Coords) : Fin 4 → Nat :=
  let c1_634 : Index := 1#32
  let arg1 : BitVec 32 := BitVec.ofNat 32 (i 1).val
  let c1_i32_618 : BitVec 32 := 1#32
  let v1383 : BitVec 32 := Scalar.subi arg1 c1_i32_618
  let v1404 : Index := Scalar.indexCast v1383
  let c0_635 : Index := 0#32
  let c0_636 : Index := 0#32
  ![1, v1404.toNat, 0, 0]
def k0_off83 (i : grid0.Coords) : Fin 4 → Nat :=
  let c2_657 : Index := 2#32
  let arg1 : BitVec 32 := BitVec.ofNat 32 (i 1).val
  let c1_i32_641 : BitVec 32 := 1#32
  let v1412 : BitVec 32 := Scalar.subi arg1 c1_i32_641
  let v1433 : Index := Scalar.indexCast v1412
  let c0_658 : Index := 0#32
  let c0_659 : Index := 0#32
  ![2, v1433.toNat, 0, 0]
def k0_off84 (i : grid0.Coords) : Fin 4 → Nat :=
  let c3_680 : Index := 3#32
  let arg1 : BitVec 32 := BitVec.ofNat 32 (i 1).val
  let c1_i32_664 : BitVec 32 := 1#32
  let v1441 : BitVec 32 := Scalar.subi arg1 c1_i32_664
  let v1462 : Index := Scalar.indexCast v1441
  let c0_681 : Index := 0#32
  let c0_682 : Index := 0#32
  ![3, v1462.toNat, 0, 0]
def k0_off85 (i : grid0.Coords) : Fin 4 → Nat :=
  let c4_703 : Index := 4#32
  let arg1 : BitVec 32 := BitVec.ofNat 32 (i 1).val
  let c1_i32_687 : BitVec 32 := 1#32
  let v1470 : BitVec 32 := Scalar.subi arg1 c1_i32_687
  let v1491 : Index := Scalar.indexCast v1470
  let c0_704 : Index := 0#32
  let c0_705 : Index := 0#32
  ![4, v1491.toNat, 0, 0]
def k0_off86 (i : grid0.Coords) : Fin 4 → Nat :=
  let c5_726 : Index := 5#32
  let arg1 : BitVec 32 := BitVec.ofNat 32 (i 1).val
  let c1_i32_710 : BitVec 32 := 1#32
  let v1499 : BitVec 32 := Scalar.subi arg1 c1_i32_710
  let v1520 : Index := Scalar.indexCast v1499
  let c0_727 : Index := 0#32
  let c0_728 : Index := 0#32
  ![5, v1520.toNat, 0, 0]
def k0_off87 (i : grid0.Coords) : Fin 4 → Nat :=
  let c6_749 : Index := 6#32
  let arg1 : BitVec 32 := BitVec.ofNat 32 (i 1).val
  let c1_i32_733 : BitVec 32 := 1#32
  let v1528 : BitVec 32 := Scalar.subi arg1 c1_i32_733
  let v1549 : Index := Scalar.indexCast v1528
  let c0_750 : Index := 0#32
  let c0_751 : Index := 0#32
  ![6, v1549.toNat, 0, 0]
def k0_off88 (i : grid0.Coords) : Fin 4 → Nat :=
  let c7_772 : Index := 7#32
  let arg1 : BitVec 32 := BitVec.ofNat 32 (i 1).val
  let c1_i32_756 : BitVec 32 := 1#32
  let v1557 : BitVec 32 := Scalar.subi arg1 c1_i32_756
  let v1578 : Index := Scalar.indexCast v1557
  let c0_773 : Index := 0#32
  let c0_774 : Index := 0#32
  ![7, v1578.toNat, 0, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c6_i32 : BitVec 32 := 6#32
  let c0_i32 : BitVec 32 := 0#32
  ![v1.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.Keep.lean ====
/- A program that only loads from and stores into buffers held at some contents leaves them held at some
   contents: the rules by which such a program is read through, statement by statement, with nothing said of
   the values. -/
module

public import Idealize.ShloMosaic.Lib.Exec
public import Idealize.ShloMosaic.Lib.Tactic
public import Idealize.ShloMosaic.Lib.Pipeline.FrameBody

@[expose] public section

noncomputable section

namespace Cert.Proof.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {F : FTy → Type} [FloatOps F] {Λ : Labels}
  {defs : Defs nD τ sig (Elt F) Λ} {c : Dev nD}

local notation "𝕄" => MT nD τ sig Unit (Elt F) ℕ (UR sig nD τ) ℕ

/-- `P` holds the whole of `m` at some contents, and takes it back at any contents. -/
def Has (c : Dev nD) (P : sProp 𝕄) {cs : CoreSpace} {s : Shape} {e : EltTy} (m : Memref sig .tc cs s e) : Prop :=
  P ⊢ iprop(∃ f, (m.view.loc (c : Thread nD τ) ↦[m.view.set]{fullShare} f)
    ∗ (∀ g, (m.view.loc (c : Thread nD τ) ↦[m.view.set]{fullShare} g) -∗ P))

/-- The program `p` runs from `P` and leaves `P`. -/
def Keeps (defs : Defs nD τ sig (Elt F) Λ) (c : Dev nD) (P : sProp 𝕄) {α : Type}
    (p : Prog (TpuEff nD τ sig (Elt F) Λ .tc) α) : Prop :=
  P ⊢ wp frame (wpE defs Variants.none (c : Thread nD τ) none) Set.univ p (fun _ => P)

/-- A return keeps everything. -/
theorem Keeps.ret {P : sProp 𝕄} {α : Type} (a : α) : Keeps defs c P (pure a : Prog (TpuEff nD τ sig (Elt F) Λ .tc) α) := by
  show P ⊢ wp frame _ Set.univ (.ret a) _
  rw [wp_ret]; iintro H; imodintro; iexact H

/-- One program after another. -/
theorem Keeps.bind {P : sProp 𝕄} {α β : Type} {p : Prog (TpuEff nD τ sig (Elt F) Λ .tc) α} {k : α → Prog (TpuEff nD τ sig (Elt F) Λ .tc) β}
    (hp : Keeps defs c P p) (hk : ∀ a, Keeps defs c P (k a)) : Keeps defs c P (p >>= k) := by
  unfold Keeps at *
  rw [wp_bind]
  exact hp.trans (wp_mono _ _ _ fun a => hk a)

/-- A load from a buffer that is held. -/
theorem Keeps.load {P : sProp 𝕄} {cs : CoreSpace} {s : Shape} {e : EltTy} {m : Memref sig .tc cs s e} (h : Has c P m)
    (r : LoadRect s) (hl : m.view.LoadsAt r) :
    Keeps defs c P (Prog.lift (.load m r hl) : Prog (TpuEff nD τ sig (Elt F) Λ .tc) _) := by
  unfold Keeps Prog.lift
  refine (show P ⊢ _ from h).trans ?_
  iintro ⟨%f, H, HP⟩
  iapply (wp_load (c := (c : Thread nD τ)) Variants.none none Set.univ (hl := hl) (q := fullShare) (f := f)
    (View.setOn_subset_set _ _)) $$ H
  iintro H
  rw [wp_ret]; imodintro
  iapply HP; iexact H

/-- A store into a buffer that is held. -/
theorem Keeps.store {P : sProp 𝕄} {cs : CoreSpace} {s : Shape} {e : EltTy} {m : Memref sig .tc cs s e} (h : Has c P m)
    (r : Rect s) (w : r.shape.Idx → Elt F e) (Mk : Finset r.shape.Idx) (hx : (m.access r).Stores Mk)
    (hm : Mk = Finset.univ ∨ ∀ a, r.stride a = 1) :
    Keeps defs c P (Prog.lift (.store m r w Mk hx hm) : Prog (TpuEff nD τ sig (Elt F) Λ .tc) _) := by
  unfold Keeps Prog.lift
  refine (show P ⊢ _ from h).trans ?_
  iintro ⟨%f, H, HP⟩
  iapply (wp_store (c := (c : Thread nD τ)) Variants.none none Set.univ (hx := hx) (hm := hm) (f := f) (S := m.view.set)
    ((View.setOn_subset_set _ _).trans (View.set_slice_subset _ _))) $$ H
  iintro H
  rw [wp_ret]; imodintro
  iapply HP; iexact H

/-- A counted loop each of whose trips keeps `P`. -/
theorem Keeps.loop {P : sProp 𝕄} {w : ℕ} {σ : Type} (l : Scf.Loop w) (hok : l.OK) (init : σ)
    (body : Fin l.trips → σ → Prog (TpuEff nD τ sig (Elt F) Λ .tc) σ) (h : ∀ k a, Keeps defs c P (body k a)) :
    Keeps defs c P (Scf.Loop.for l hok init body) := by
  unfold Keeps
  refine BIBase.Entails.trans ?_ (Scf.wp_for frame (wpE defs Variants.none (c : Thread nD τ) none) Set.univ l.lb l.ub l.st hok init body
    (fun _ _ => P) (fun k a => h k a))
  iintro H
  isplitl [H]
  · iexact H
  · iintro %a H; iexact H

/-- A branch both of whose arms keep `P`. -/
theorem Keeps.branch {P : sProp 𝕄} {α : Type} {C : Prop} (dec : Decidable C) {p : C → Prog (TpuEff nD τ sig (Elt F) Λ .tc) α}
    {q : ¬C → Prog (TpuEff nD τ sig (Elt F) Λ .tc) α} (hp : ∀ h, Keeps defs c P (p h)) (hq : ∀ h, Keeps defs c P (q h)) :
    Keeps defs c P (@dite _ C dec p q) := by
  by_cases h : C
  · rw [dif_pos h]; exact hp h
  · rw [dif_neg h]; exact hq h

/-- What the left part holds the whole holds. -/
theorem Has.left {A B : sProp 𝕄} {cs : CoreSpace} {s : Shape} {e : EltTy} {m : Memref sig .tc cs s e} (h : Has c A m) :
    Has c iprop(A ∗ B) m := by
  unfold Has at *
  iintro ⟨HA, HB⟩
  ihave HA := h $$ HA
  icases HA with ⟨%f, H, HA⟩
  iexists f
  isplitl [H]
  · iexact H
  · iintro %g Hg
    isplitl [HA Hg]
    · iapply HA; iexact Hg
    · iexact HB

/-- What the right part holds the whole holds. -/
theorem Has.right {A B : sProp 𝕄} {cs : CoreSpace} {s : Shape} {e : EltTy} {m : Memref sig .tc cs s e} (h : Has c B m) :
    Has c iprop(A ∗ B) m := by
  unfold Has at *
  iintro ⟨HA, HB⟩
  ihave HB := h $$ HB
  icases HB with ⟨%f, H, HB⟩
  iexists f
  isplitl [H]
  · iexact H
  · iintro %g Hg
    isplitl [HA]
    · iexact HA
    · iapply HB; iexact Hg

/-- A buffer owned at some value is held. -/
theorem Has.owned {cs : CoreSpace} {s : Shape} {e : EltTy} {m : Memref sig .tc cs s e} :
    Has c (iprop(∃ X, owns (c : Thread nD τ) m fullShare X) : sProp 𝕄) m := by
  unfold Has owns
  iintro ⟨%X, %f, %h, H⟩
  iexists f
  isplitl [H]
  · iexact H
  · iintro %g Hg
    iexists (m.view.read (Elt F) g); iexists g
    isplitr
    · ipureintro; rfl
    · iexact Hg

end Cert.Proof.Keep

end
-- ==== Proof.AttnIdealKeep.lean ====
/- The attention call's body (the rewritten program), read through statement by statement: at every grid point,
   whatever its branches and loops decide, it leaves each buffer it holds held. -/
module

public import proofs.«01_k».proof.Proof.Keep
public import proofs.«01_k».proof.Proof.Gen.AttnIdeal.Skeleton

@[expose] public section

set_option maxRecDepth 65536

noncomputable section

namespace Cert.Proof.AttnIdealKeep

open Cert.AttnIdeal Cert.AttnIdeal.Gen Cert.Proof.Keep
open Idealize.ShloMosaic Idealize.ShloMosaic.TcCoe
open Idealize.SL Idealize.SL.BI Idealize.SL.Sem
open Idealize.ShloMosaic.Rounds

variable {F : FTy → Type} [FloatOps F]

local notation "𝕄" => MT nD τ sig Unit (Elt F) ℕ (UR sig nD τ) ℕ

/-- `P` holds every buffer the body is given: its eight windows and its nine scratch buffers. -/
structure Held (c : Dev nD) (P : sProp 𝕄) (arg2 : Memref sig .tc .vmem S256x512 .f32) (arg3 : Memref sig .tc .vmem S256x512 .f32) (arg4 : Memref sig .tc .vmem S256x512 .f32) (arg5 : Memref sig .tc .vmem S1x512 .f32) (arg6 : Memref sig .tc .vmem S1x512 .f32) (arg7 : Memref sig .tc .vmem S512x512 .bf16) (arg8 : Memref sig .tc .vmem S512x1024 .bf16) (arg9 : Memref sig .tc .vmem S1x512x256 .bf16) (arg10 : Memref sig .tc .vmem S32x512 .f32) (arg11 : Memref sig .tc .vmem S8x32x256x128 .bf16) (arg12 : Memref sig .tc .vmem S8x32x80x256 .bf16) (arg13 : Memref sig .tc .vmem S8x256x256 .f32) (arg14 : Memref sig .tc .vmem S8x256x256 .f32) (arg15 : Memref sig .tc .vmem S8x1x256 .f32) (arg16 : Memref sig .tc .vmem S8x1x256 .f32) (arg17 : Memref sig .tc .vmem S8x1x256 .f32) (arg18 : Memref sig .tc .vmem S8x80x256 .f32) : Prop where
  h2 : Has c P arg2
  h3 : Has c P arg3
  h4 : Has c P arg4
  h5 : Has c P arg5
  h6 : Has c P arg6
  h7 : Has c P arg7
  h8 : Has c P arg8
  h9 : Has c P arg9
  h10 : Has c P arg10
  h11 : Has c P arg11
  h12 : Has c P arg12
  h13 : Has c P arg13
  h14 : Has c P arg14
  h15 : Has c P arg15
  h16 : Has c P arg16
  h17 : Has c P arg17
  h18 : Has c P arg18

variable {c : Dev nD} {P : sProp (MT nD τ sig Unit (Elt F) ℕ (UR sig nD τ) ℕ)} (i : grid0.Coords)
  (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x1024 .bf16) (harg8 : arg8.IsWhole) (arg9 : Memref sig .tc .vmem S1x512x256 .bf16) (harg9 : arg9.IsWhole) (arg10 : Memref sig .tc .vmem S32x512 .f32) (harg10 : arg10.IsWhole) (arg11 : Memref sig .tc .vmem S8x32x256x128 .bf16) (harg11 : arg11.IsWhole) (arg12 : Memref sig .tc .vmem S8x32x80x256 .bf16) (harg12 : arg12.IsWhole) (arg13 : Memref sig .tc .vmem S8x256x256 .f32) (harg13 : arg13.IsWhole) (arg14 : Memref sig .tc .vmem S8x256x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x1x256 .f32) (harg17 : arg17.IsWhole) (arg18 : Memref sig .tc .vmem S8x80x256 .f32) (harg18 : arg18.IsWhole)

/-- The body leaves every buffer held. -/
theorem keeps_cc0_moba_attention  (H : Held c P arg2 arg3 arg4 arg5 arg6 arg7 arg8 arg9 arg10 arg11 arg12 arg13 arg14 arg15 arg16 arg17 arg18) :
    Keeps (defs₀ (F := F)) c P (cc0_moba_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ) := by
  obtain ⟨h2, h3, h4, h5, h6, h7, h8, h9, h10, h11, h12, h13, h14, h15, h16, h17, h18⟩ := H
  rw [cc0_moba_attention_eq_skeleton]; unfold cc0_moba_attention_skel
  repeat' (first
    | with_reducible refine Keeps.bind (F := F) ?_ fun x => ?_
    | with_reducible refine Keeps.load (F := F) (by assumption) _ _
    | with_reducible refine Keeps.store (F := F) (by assumption) _ _ _ _ _
    | with_reducible exact Keeps.ret (F := F) _
    | with_reducible refine Keeps.loop (F := F) _ _ _ _ fun k a => ?_
    | with_reducible refine Keeps.branch (F := F) _ (fun h => ?_) (fun h => ?_)
    | (simp only [
          k0_part1_eq_skeleton, k0_part2_eq_skeleton, k0_part3_eq_skeleton, k0_part4_eq_skeleton,
          k0_part5_eq_skeleton, k0_part6_eq_skeleton, k0_part7_eq_skeleton, k0_part8_eq_skeleton,
          k0_part9_eq_skeleton, k0_part10_eq_skeleton, k0_part11_eq_skeleton, k0_part12_eq_skeleton,
          k0_part13_eq_skeleton, k0_part14_eq_skeleton, k0_part15_eq_skeleton, k0_part16_eq_skeleton,
          k0_part17_eq_skeleton, k0_part18_eq_skeleton, k0_part19_eq_skeleton, k0_part20_eq_skeleton,
          k0_part21_eq_skeleton, k0_part22_eq_skeleton, k0_part23_eq_skeleton, k0_part24_eq_skeleton,
          k0_part25_eq_skeleton, k0_part26_eq_skeleton, k0_part27_eq_skeleton, k0_part28_eq_skeleton,
          k0_part29_eq_skeleton, k0_part30_eq_skeleton, k0_part31_eq_skeleton, k0_part32_eq_skeleton,
          k0_part33_eq_skeleton, k0_part34_eq_skeleton, k0_part35_eq_skeleton, k0_part36_eq_skeleton,
          k0_part37_eq_skeleton, k0_part38_eq_skeleton, k0_part39_eq_skeleton, k0_part40_eq_skeleton,
          k0_part41_eq_skeleton, k0_part42_eq_skeleton, k0_part43_eq_skeleton, k0_part44_eq_skeleton,
          k0_part45_eq_skeleton, k0_part46_eq_skeleton, k0_part47_eq_skeleton, k0_part48_eq_skeleton,
          k0_part49_eq_skeleton, k0_part50_eq_skeleton, k0_part51_eq_skeleton, k0_part52_eq_skeleton,
          k0_part53_eq_skeleton, k0_part54_eq_skeleton, k0_part55_eq_skeleton, k0_part56_eq_skeleton,
          k0_part57_eq_skeleton, k0_part58_eq_skeleton, k0_part59_eq_skeleton, k0_part60_eq_skeleton,
          k0_part61_eq_skeleton, k0_part62_eq_skeleton, k0_part63_eq_skeleton, k0_part64_eq_skeleton,
          k0_part65_eq_skeleton, k0_part66_eq_skeleton, k0_part67_eq_skeleton, k0_part68_eq_skeleton,
          k0_part69_eq_skeleton, k0_part70_eq_skeleton, k0_part71_eq_skeleton, k0_part72_eq_skeleton,
          k0_part73_eq_skeleton, k0_part74_eq_skeleton, k0_part75_eq_skeleton, k0_part76_eq_skeleton,
          k0_part77_eq_skeleton, k0_part78_eq_skeleton, k0_part79_eq_skeleton, k0_part80_eq_skeleton,
          k0_part81_eq_skeleton, k0_part82_eq_skeleton, k0_part83_eq_skeleton]
       delta
          k0_part1_skel k0_part2_skel k0_part3_skel k0_part4_skel k0_part5_skel k0_part6_skel k0_part7_skel
          k0_part8_skel k0_part9_skel k0_part10_skel k0_part11_skel k0_part12_skel k0_part13_skel k0_part14_skel
          k0_part15_skel k0_part16_skel k0_part17_skel k0_part18_skel k0_part19_skel k0_part20_skel k0_part21_skel
          k0_part22_skel k0_part23_skel k0_part24_skel k0_part25_skel k0_part26_skel k0_part27_skel k0_part28_skel
          k0_part29_skel k0_part30_skel k0_part31_skel k0_part32_skel k0_part33_skel k0_part34_skel k0_part35_skel
          k0_part36_skel k0_part37_skel k0_part38_skel k0_part39_skel k0_part40_skel k0_part41_skel k0_part42_skel
          k0_part43_skel k0_part44_skel k0_part45_skel k0_part46_skel k0_part47_skel k0_part48_skel k0_part49_skel
          k0_part50_skel k0_part51_skel k0_part52_skel k0_part53_skel k0_part54_skel k0_part55_skel k0_part56_skel
          k0_part57_skel k0_part58_skel k0_part59_skel k0_part60_skel k0_part61_skel k0_part62_skel k0_part63_skel
          k0_part64_skel k0_part65_skel k0_part66_skel k0_part67_skel k0_part68_skel k0_part69_skel k0_part70_skel
          k0_part71_skel k0_part72_skel k0_part73_skel k0_part74_skel k0_part75_skel k0_part76_skel k0_part77_skel
          k0_part78_skel k0_part79_skel k0_part80_skel k0_part81_skel k0_part82_skel k0_part83_skel)
    | (delta k0_t1_body k0_t2_body)
    | split
    | dsimp only)

end Cert.Proof.AttnIdealKeep

end
-- ==== Proof.AttnIdealFrame.lean ====
/- The attention call's frame (the rewritten program): every run ends, the arguments end unchanged and
   every counter ends at zero. Nothing is said of what the body leaves in its buffers, so every window is forgotten. -/
module

public import Idealize.ShloMosaic.Lib.Pipeline.FrameBody
public import proofs.«01_k».proof.Proof.AttnIdealKeep
public import proofs.«01_k».proof.Proof.Gen.AttnIdeal.Frame
public import proofs.«01_k».proof.Proof.Gen.AttnIdeal.Points

@[expose] public section

set_option maxRecDepth 16384

noncomputable section

namespace Cert.Proof.AttnIdealFrame

open Cert.AttnIdeal Cert.AttnIdeal.Gen Cert.Proof.Keep Cert.Proof.AttnIdealKeep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data on core `c`: the arrays as the region finds them, every window left at anything, the
    scratch buffers and the generator register at anything between the points, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- The invariant between the points, buffer by buffer. -/
theorem PhiA_eq (c : Dev nD) :
    (Pipeline.ΦA spec0 c : sProp 𝕄)
      = iprop(((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X)) ∗ (∃ r, prngReg c r)) := by
  unfold Pipeline.ΦA; rw [scopedRest0_eq]; simp only [owns_whole]; try rfl

/-- What the body is given at point `t`. -/
def Given (c : Dev nD) (t : Fin cfg0.N) (O : sProp 𝕄) : sProp 𝕄 :=
  iprop((((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X)) ∗ (∃ r, prngReg c r)) ∗ O ∗ ((∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X)))

/-- It holds every buffer the body addresses. -/
theorem held (c : Dev nD) (t : Fin cfg0.N) (O : sProp 𝕄) :
    Held c (Given c t O) (st0_0 t) (st0_1 t) (st0_2 t) (st0_3 t) (st0_4 t) (st0_5 t) (st0_6 t) (st0_7 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) where
  h2 := (((Has.owned).left).right).right
  h3 := ((((Has.owned).left).right).right).right
  h4 := (((((Has.owned).left).right).right).right).right
  h5 := ((((((Has.owned).left).right).right).right).right).right
  h6 := (((((((Has.owned).left).right).right).right).right).right).right
  h7 := ((((((((Has.owned).left).right).right).right).right).right).right).right
  h8 := (((((((((Has.owned).left).right).right).right).right).right).right).right).right
  h9 := (((((((((Has.owned).right).right).right).right).right).right).right).right).right
  h10 := (((Has.owned).left).left).left
  h11 := ((((Has.owned).left).right).left).left
  h12 := (((((Has.owned).left).right).right).left).left
  h13 := ((((((Has.owned).left).right).right).right).left).left
  h14 := (((((((Has.owned).left).right).right).right).right).left).left
  h15 := ((((((((Has.owned).left).right).right).right).right).right).left).left
  h16 := (((((((((Has.owned).left).right).right).right).right).right).right).left).left
  h17 := ((((((((((Has.owned).left).right).right).right).right).right).right).right).left).left
  h18 := ((((((((((Has.owned).right).right).right).right).right).right).right).right).left).left

/-- The body at point `t` leaves what it is given. -/
theorem keeps_body (c : Dev nD) (t : Fin cfg0.N) (O : sProp 𝕄) :
    Keeps (defs₀ (F := F)) c (Given c t O) (bodyAt0 (F := F) t) :=
  keeps_cc0_moba_attention _ _ _ _ _ _ _ _ _ _ _ _ _ _ _ _ _ _ _ _ _ _ _ _ _ _ _ _ _ _ _ _ _ _ _ (held c t O)

/-- The body as the pipeline calls it at point `t`. -/
theorem defs₀_row (t : Fin cfg0.N) :
    defs₀ (F := F) .tc cfg0.body (cfg0.bodyArgs t (cfg0.slots t)) = bodyAt0 t := by
  unfold defs₀; rw [Defs.onTc_tc]

/-- The library's obligation for the body, every window forgotten. -/
theorem body_obligation (c : Dev nD) :
    BodyObligation (dats (F := F) m 0 c) (defs₀ (F := F)) Variants.none () Set.univ (fun _ => true) := fun t => by
  rw [bigSep_W0, defs₀_row]
  have h := keeps_body c t ((dats (F := F) m 0 c).owesAt () t.castSucc)
  unfold Keeps Given at h
  rw [← PhiA_eq] at h
  exact triple_restated h rfl .rfl fun _ => .rfl

set_option backward.isDefEq.respectTransparency.types false in
set_option maxHeartbeats 800000 in
/-- The launch: every execution ends, with every staged array an input at what the region found in it, every other
    buffer outside the region as the region found it, and every counter at zero. -/
theorem run : θ_run defs (onTc (τ := τ) (main (F := F))) (s₀ m ρ) (fun r =>
    Pipeline.RDat.FramePost cfg0 (fun c => (dats m 0 c).toRForget fun _ => true) (V m) r ∧ r.2.sem = fun _ => 0) :=
  Pipeline.θ_run_frame_forget_shared cfgs (dats m) (0 : Fin 1) launch₀0 defs₀ Variants.none (fun _ => true) m ρ main
    (hbody := fun c => (body_obligation m c).loose) (hq := fun _ _ _ => rfl)
    (howed := fun _ _ => rfl) (V := V m) (hmain := hmain m Variants.none) (hA := A_eq m) (hΦ := fun _ _ => rfl)
    (Q' := _) (hQ' := fun _ h => h)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 2 rfl).trans ((A_eq m c 2).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

end Cert.Proof.AttnIdealFrame

end
-- ==== Proof.MergeSpec.lean ====
module

public import Idealize.ShloMosaic.PureOps.Ideal.Laws
public import Idealize.ShloMosaic.Lib.Pointwise

@[expose] public section

noncomputable section

open Idealize.ShloMosaic

/-! One token of the merge, on extended reals: the pooling of its window, the three gated branches, the output
    projection, the second norm and the MLP. Both programs are read down to `row`. -/

namespace Cert.MergeRow

/-- The mean of the last `w` entries of a column (fewer at the start), less the present one. `Z n` is the entry of
    time `n - 16`, zero before the start. -/
def pd (w : ℕ) (Z : ℕ → EReal) (t : ℕ) : EReal :=
  Ideal.div (∑ i ∈ Finset.range w, Z (t + (17 - w) + i)) (((min (t + 1) w : ℕ) : ℝ) : EReal) - Z (t + 16)

/-- The window of pooling group `g`. -/
def width (g : ℕ) : ℕ := 2 ^ (g + 1)

/-- The pooled branch: each group's means through its 128 x 128 matrix, then the scale. -/
def pool (Z : Fin 512 → ℕ → EReal) (t : ℕ) (PW : Fin 4 → Fin 128 → Fin 128 → EReal) (PS : Fin 512 → EReal)
    (c : Fin 512) : EReal :=
  (∑ k : Fin 128, PW ⟨c.val / 128, by omega⟩ k ⟨c.val % 128, by omega⟩
      * pd (width (c.val / 128)) (Z ⟨c.val / 128 * 128 + k.val, by omega⟩) t) * PS c

/-- The three branches through their matrices, gated and summed. -/
def gated (G : Fin 3 → Fin 1024 → EReal) (Y : Fin 3 → Fin 512 → EReal) (WB : Fin 3 → Fin 512 → Fin 1024 → EReal)
    (c : Fin 1024) : EReal :=
  ∑ n : Fin 3, Ideal.logistic (G n c) * ∑ k : Fin 512, WB n k c * Y n k

/-- The residual stream after the mixers. -/
def mid (X M : Fin 1024 → EReal) (WO : Fin 1024 → Fin 1024 → EReal) (c : Fin 1024) : EReal :=
  X c + ∑ k : Fin 1024, M k * WO k c

/-- The root mean square norm. -/
def rmsn (X N : Fin 1024 → EReal) (c : Fin 1024) : EReal :=
  X c * Ideal.rsqrt (Ideal.div (∑ k : Fin 1024, X k * X k) (Ideal.ofBits FTy.f32 1149239296#32)
    + Ideal.ofBits FTy.f32 897988541#32) * N c

/-- A hidden unit of the MLP. -/
def unit (H : Fin 1024 → EReal) (W1 : Fin 1024 → Fin 4096 → EReal) (f : Fin 4096) : EReal :=
  max (∑ k : Fin 1024, H k * W1 k f) 0

/-- The MLP on top of the residual stream. -/
def mlp (X H : Fin 1024 → EReal) (W1 : Fin 1024 → Fin 4096 → EReal) (W2 : Fin 4096 → Fin 1024 → EReal)
    (c : Fin 1024) : EReal :=
  X c + ∑ f : Fin 4096, unit H W1 f * unit H W1 f * W2 f c

/-- One token of the merge. -/
def row (X : Fin 1024 → EReal) (YR YA : Fin 512 → EReal) (G : Fin 3 → Fin 1024 → EReal) (Z : Fin 512 → ℕ → EReal)
    (t : ℕ) (PW : Fin 4 → Fin 128 → Fin 128 → EReal) (PS : Fin 512 → EReal)
    (WB : Fin 3 → Fin 512 → Fin 1024 → EReal) (WO : Fin 1024 → Fin 1024 → EReal) (N : Fin 1024 → EReal)
    (W1 : Fin 1024 → Fin 4096 → EReal) (W2 : Fin 4096 → Fin 1024 → EReal) : Fin 1024 → EReal :=
  let x := mid X (gated G ![YR, YA, pool Z t PW PS] WB) WO
  mlp x (rmsn x N) W1 W2

/-- The MLP's sum over the hidden units in four runs of 1024. -/
theorem mlp_runs (X H : Fin 1024 → EReal) (W1 : Fin 1024 → Fin 4096 → EReal) (W2 : Fin 4096 → Fin 1024 → EReal)
    (S : Fin 4 → EReal) (c : Fin 1024)
    (hS : ∀ j : Fin 4, S j = ∑ f : Fin 1024, unit H W1 ⟨j.val * 1024 + f.val, by omega⟩
      * unit H W1 ⟨j.val * 1024 + f.val, by omega⟩ * W2 ⟨j.val * 1024 + f.val, by omega⟩ c) :
    X c + S 0 + S 1 + S 2 + S 3 = mlp X H W1 W2 c := by
  unfold mlp
  rw [Fin.sum_univ_tiles 4 1024 rfl, Fin.sum_univ_four]
  simp only [hS, add_assoc]

/-! ## A window's sum, as a block adds it by rotations -/

/-- A rotation by `k` rows that does not come round. -/
theorem rot (p k : ℕ) (hk : k ≤ p) (hp : p < 528) : (p + 528 - k) % 528 = p - k := by omega

theorem addsub (r a k : ℕ) (hk : k ≤ a) : r + a - k = r + (a - k) := by omega

/-- The count of the window: the position, at most `w`. -/
theorem count (n w : ℕ) (x : EReal) (hx : x = ((w : ℝ) : EReal)) :
    min (((n : ℕ) : ℝ) : EReal) x = (((min n w : ℕ) : ℝ) : EReal) := by
  subst hx
  rw [Nat.cast_min]
  exact (EReal.coe_strictMono.monotone.map_min).symm

/-- The f32 word of 2. -/
theorem word2 : Ideal.ofBits FTy.f32 1073741824#32 = ((((2 : ℕ) : ℝ)) : EReal) := by
  simp [Ideal.ofBits, Ideal.ieee, -EReal.coe_mul]; norm_num

/-- The f32 word of 4. -/
theorem word4 : Ideal.ofBits FTy.f32 1082130432#32 = ((((4 : ℕ) : ℝ)) : EReal) := by
  simp [Ideal.ofBits, Ideal.ieee, -EReal.coe_mul]; norm_num

/-- The f32 word of 8. -/
theorem word8 : Ideal.ofBits FTy.f32 1090519040#32 = ((((8 : ℕ) : ℝ)) : EReal) := by
  simp [Ideal.ofBits, Ideal.ieee, -EReal.coe_mul]; norm_num

/-- The f32 word of 16. -/
theorem word16 : Ideal.ofBits FTy.f32 1098907648#32 = ((((16 : ℕ) : ℝ)) : EReal) := by
  simp [Ideal.ofBits, Ideal.ieee, -EReal.coe_mul]; norm_num

/-- A window of 2, summed by halves. -/
theorem pd_2 (Z : Fin 512 → ℕ → EReal) (c : Fin 512) (T r : ℕ) (hr : r < 512) :
    Ideal.div (Z c (T + (16 + r)) + Z c (T + ((16 + r) + 528 - 1) % 528))
      (min (((T + r + 1 : ℕ) : ℝ) : EReal) (Ideal.ofBits FTy.f32 1073741824#32)) - Z c (T + (r + 16)) = pd 2 (Z c) (T + r) := by
  rw [count _ 2 _ word2, pd]
  simp (disch := omega) only [rot]
  simp (disch := omega) only [Nat.sub_sub, Nat.reduceAdd, addsub r, Nat.reduceSub, Nat.add_assoc, Finset.sum_range_succ,
    Finset.sum_range_zero, Nat.add_comm 16 r]
  congr 2
  all_goals first | rfl | ac_rfl

/-- A window of 4, summed by halves. -/
theorem pd_4 (Z : Fin 512 → ℕ → EReal) (c : Fin 512) (T r : ℕ) (hr : r < 512) :
    Ideal.div ((Z c (T + (16 + r)) + Z c (T + ((16 + r) + 528 - 1) % 528)) + (Z c (T + ((16 + r) + 528 - 2) % 528) + Z c (T + ((((16 + r) + 528 - 2) % 528) + 528 - 1) % 528)))
      (min (((T + r + 1 : ℕ) : ℝ) : EReal) (Ideal.ofBits FTy.f32 1082130432#32)) - Z c (T + (r + 16)) = pd 4 (Z c) (T + r) := by
  rw [count _ 4 _ word4, pd]
  simp (disch := omega) only [rot]
  simp (disch := omega) only [Nat.sub_sub, Nat.reduceAdd, addsub r, Nat.reduceSub, Nat.add_assoc, Finset.sum_range_succ,
    Finset.sum_range_zero, Nat.add_comm 16 r]
  congr 2
  all_goals first | rfl | ac_rfl

/-- A window of 8, summed by halves. -/
theorem pd_8 (Z : Fin 512 → ℕ → EReal) (c : Fin 512) (T r : ℕ) (hr : r < 512) :
    Ideal.div (((Z c (T + (16 + r)) + Z c (T + ((16 + r) + 528 - 1) % 528)) + (Z c (T + ((16 + r) + 528 - 2) % 528) + Z c (T + ((((16 + r) + 528 - 2) % 528) + 528 - 1) % 528))) + ((Z c (T + ((16 + r) + 528 - 4) % 528) + Z c (T + ((((16 + r) + 528 - 4) % 528) + 528 - 1) % 528)) + (Z c (T + ((((16 + r) + 528 - 4) % 528) + 528 - 2) % 528) + Z c (T + ((((((16 + r) + 528 - 4) % 528) + 528 - 2) % 528) + 528 - 1) % 528))))
      (min (((T + r + 1 : ℕ) : ℝ) : EReal) (Ideal.ofBits FTy.f32 1090519040#32)) - Z c (T + (r + 16)) = pd 8 (Z c) (T + r) := by
  rw [count _ 8 _ word8, pd]
  simp (disch := omega) only [rot]
  simp (disch := omega) only [Nat.sub_sub, Nat.reduceAdd, addsub r, Nat.reduceSub, Nat.add_assoc, Finset.sum_range_succ,
    Finset.sum_range_zero, Nat.add_comm 16 r]
  congr 2
  all_goals first | rfl | ac_rfl

/-- A window of 16, summed by halves. -/
theorem pd_16 (Z : Fin 512 → ℕ → EReal) (c : Fin 512) (T r : ℕ) (hr : r < 512) :
    Ideal.div ((((Z c (T + (16 + r)) + Z c (T + ((16 + r) + 528 - 1) % 528)) + (Z c (T + ((16 + r) + 528 - 2) % 528) + Z c (T + ((((16 + r) + 528 - 2) % 528) + 528 - 1) % 528))) + ((Z c (T + ((16 + r) + 528 - 4) % 528) + Z c (T + ((((16 + r) + 528 - 4) % 528) + 528 - 1) % 528)) + (Z c (T + ((((16 + r) + 528 - 4) % 528) + 528 - 2) % 528) + Z c (T + ((((((16 + r) + 528 - 4) % 528) + 528 - 2) % 528) + 528 - 1) % 528)))) + (((Z c (T + ((16 + r) + 528 - 8) % 528) + Z c (T + ((((16 + r) + 528 - 8) % 528) + 528 - 1) % 528)) + (Z c (T + ((((16 + r) + 528 - 8) % 528) + 528 - 2) % 528) + Z c (T + ((((((16 + r) + 528 - 8) % 528) + 528 - 2) % 528) + 528 - 1) % 528))) + ((Z c (T + ((((16 + r) + 528 - 8) % 528) + 528 - 4) % 528) + Z c (T + ((((((16 + r) + 528 - 8) % 528) + 528 - 4) % 528) + 528 - 1) % 528)) + (Z c (T + ((((((16 + r) + 528 - 8) % 528) + 528 - 4) % 528) + 528 - 2) % 528) + Z c (T + ((((((((16 + r) + 528 - 8) % 528) + 528 - 4) % 528) + 528 - 2) % 528) + 528 - 1) % 528)))))
      (min (((T + r + 1 : ℕ) : ℝ) : EReal) (Ideal.ofBits FTy.f32 1098907648#32)) - Z c (T + (r + 16)) = pd 16 (Z c) (T + r) := by
  rw [count _ 16 _ word16, pd]
  simp (disch := omega) only [rot]
  simp (disch := omega) only [Nat.sub_sub, Nat.reduceAdd, addsub r, Nat.reduceSub, Nat.add_assoc, Finset.sum_range_succ,
    Finset.sum_range_zero, Nat.add_comm 16 r]
  congr 2
  all_goals first | rfl | ac_rfl

/-! ## A window's sum, as a difference of running sums -/

/-- The pooling columns of one sequence by time, sixteen zeros before the start. -/
def col (x3 : FVec Ideal ⟨2, ![32768, 4096]⟩ .f32) (b : Fin 4) (c : Fin 512) (n : ℕ) : EReal :=
  if h : 16 ≤ n ∧ n - 16 < 8192 then x3 (ix2 ⟨b.val * 8192 + (n - 16), by omega⟩ ⟨3584 + c.val, by omega⟩) else 0

theorem col_start (x3 : FVec Ideal ⟨2, ![32768, 4096]⟩ .f32) (b : Fin 4) (c : Fin 512) (n : ℕ) (hn : n < 16) :
    col x3 b c n = 0 := dif_neg (by omega)

theorem col_finite (x3 : FVec Ideal ⟨2, ![32768, 4096]⟩ .f32)
    (hx : ∀ (r : Fin 32768) (c : Fin 512), ∃ y : ℝ, x3 (ix2 r ⟨3584 + c.val, by omega⟩) = (y : EReal))
    (b : Fin 4) (c : Fin 512) (n : ℕ) : ∃ y : ℝ, col x3 b c n = (y : EReal) := by
  unfold col
  split
  · exact hx _ _
  · exact ⟨0, rfl⟩

/-- A sum of finite entries is finite. -/
theorem sum_finite (Z : ℕ → EReal) (hZ : ∀ n, ∃ y : ℝ, Z n = (y : EReal)) (n : ℕ) :
    ∃ y : ℝ, ∑ i ∈ Finset.range n, Z i = (y : EReal) := by
  choose f hf using hZ
  refine ⟨∑ i ∈ Finset.range n, f i, ?_⟩
  simp only [hf]
  induction n with
  | zero => simp
  | succ n ih => rw [Finset.sum_range_succ, Finset.sum_range_succ, ih, EReal.coe_add]

/-- The running sum up to `t` less the running sum up to `t - w` (zero before the start) is the window's sum. -/
theorem window (Z : ℕ → EReal) (hZ : ∀ n, ∃ y : ℝ, Z n = (y : EReal)) (h0 : ∀ n, n < 16 → Z n = 0) (w t : ℕ)
    (hw : w ≤ 16) (L : EReal) (hL : L = if w ≤ t then ∑ i ∈ Finset.range (t - w + 17), Z i else 0) :
    ∑ i ∈ Finset.range (t + 17), Z i - L = ∑ i ∈ Finset.range w, Z (t + (17 - w) + i) := by
  have hL' : L = ∑ i ∈ Finset.range (t + (17 - w)), Z i := by
    rw [hL]
    split
    · next h => rw [show t - w + 17 = t + (17 - w) by omega]
    · next h => exact (Finset.sum_eq_zero fun i hi => h0 i (by have := Finset.mem_range.mp hi; omega)).symm
  rw [hL', show t + 17 = t + (17 - w) + w by omega, Finset.sum_range_add]
  obtain ⟨a, ha⟩ := sum_finite Z hZ (t + (17 - w))
  rw [ha, add_comm]
  exact EReal.add_sub_cancel_right

/-- The count, as the reference computes it. -/
theorem counted (t w : ℕ) (ht : t < 8192) (hw : w ≤ 16) :
    (IntOp.minsi (IntOp.addi (BitVec.ofNat 32 t) 1#32) (BitVec.ofNat 32 w)).toInt = ((min (t + 1) w : ℕ) : ℤ) := by
  have e : IntOp.addi (BitVec.ofNat 32 t) 1#32 = BitVec.ofNat 32 (t + 1) := by
    simp only [IntOp.addi, BitVec.ofNat_add]
  have h1 : (BitVec.ofNat 32 (t + 1)).toInt = ((t + 1 : ℕ) : ℤ) := by
    rw [BitVec.toInt_ofNat', Int.bmod_eq_of_le (by omega) (by omega)]
  have h2 : (BitVec.ofNat 32 w).toInt = ((w : ℕ) : ℤ) := by
    rw [BitVec.toInt_ofNat', Int.bmod_eq_of_le (by omega) (by omega)]
  rw [e]
  simp only [IntOp.minsi, BitVec.slt, h1, h2]
  split <;> simp_all <;> omega

/-- The mean of a window less the present entry, as the reference computes it. -/
theorem pd_ref (Z : ℕ → EReal) (hZ : ∀ n, ∃ y : ℝ, Z n = (y : EReal)) (h0 : ∀ n, n < 16 → Z n = 0) (w t : ℕ)
    (ht : t < 8192) (hw : w ≤ 16) (L : EReal) (hL : L = if w ≤ t then ∑ i ∈ Finset.range (t - w + 17), Z i else 0) :
    Ideal.div (∑ i ∈ Finset.range (t + 17), Z i - L)
      ((((IntOp.minsi (IntOp.addi (BitVec.ofNat 32 t) 1#32) (BitVec.ofNat 32 w)).toInt : ℝ)) : EReal) - Z (t + 16)
      = pd w Z t := by
  rw [window Z hZ h0 w t hw L hL, counted t w ht hw]
  rfl

end Cert.MergeRow

end
-- ==== Proof.MergePay.lean ====
module

public import proofs.«01_k».proof.Proof.Gen.MergeIdeal.Skeleton
public import proofs.«01_k».proof.Proof.MergeSpec
public import Idealize.ShloMosaic.Lib.Pointwise

@[expose] public section

set_option maxRecDepth 16384

noncomputable section

open Idealize.ShloMosaic Idealize.ShloMosaic.TcCoe Idealize.SL.Sem

namespace Cert.MergeIdeal.Pay

open Cert.MergeIdeal Cert.MergeIdeal.Gen Cert.MergeRow

/-- The block after the output projection, a row at a time. -/
theorem pay8_at (x : FVec Ideal S512x1024 .f32) (g : FVec Ideal S512x1024 .bf16) (w : FVec Ideal S1024x1024 .bf16)
    (r : Fin 512) (c : Fin 1024) :
    k0_pay8 (F := Ideal) x g w (ix2 r c)
      = mid (fun c => x (ix2 r c)) (fun c => g (ix2 r c)) (fun k c => w (ix2 k c)) c := by
  pointwise [k0_pay8, mid]

/-- Its norm. -/
theorem pay9_at (x : FVec Ideal S512x1024 .f32) (g : FVec Ideal S512x1024 .bf16) (w : FVec Ideal S1024x1024 .bf16)
    (n : FVec Ideal S1x1024 .f32) (r : Fin 512) (c : Fin 1024) :
    k0_pay9 (F := Ideal) x g w n (ix2 r c)
      = rmsn (mid (fun c => x (ix2 r c)) (fun c => g (ix2 r c)) (fun k c => w (ix2 k c))) (fun c => n (ix2 0 c)) c := by
  pointwise [k0_pay9, rmsn]
  simp only [pay8_at]

/-- The first quarter of the MLP on top of the residual. -/
theorem pay10_at (x : FVec Ideal S512x1024 .f32) (g : FVec Ideal S512x1024 .bf16) (w : FVec Ideal S1024x1024 .bf16)
    (n : FVec Ideal S1x1024 .f32) (w1 w2 : FVec Ideal S1024x1024 .bf16) (r : Fin 512) (c : Fin 1024) :
    k0_pay10 (F := Ideal) x g w n w1 w2 (ix2 r c) = k0_pay8 (F := Ideal) x g w (ix2 r c)
      + ∑ f : Fin 1024, max (∑ k : Fin 1024, k0_pay9 (F := Ideal) x g w n (ix2 r k) * w1 (ix2 k f)) 0
        * max (∑ k : Fin 1024, k0_pay9 (F := Ideal) x g w n (ix2 r k) * w1 (ix2 k f)) 0 * w2 (ix2 f c) := by
  pointwise [k0_pay10]

/-- The second quarter. -/
theorem pay11_at (x : FVec Ideal S512x1024 .f32) (g : FVec Ideal S512x1024 .bf16) (w : FVec Ideal S1024x1024 .bf16)
    (n : FVec Ideal S1x1024 .f32) (w1 w2 : FVec Ideal S1024x1024 .bf16) (r : Fin 512) (c : Fin 1024) :
    k0_pay11 (F := Ideal) x g w n w1 w2 (ix2 r c)
      = ∑ f : Fin 1024, max (∑ k : Fin 1024, k0_pay9 (F := Ideal) x g w n (ix2 r k) * w1 (ix2 k f)) 0
        * max (∑ k : Fin 1024, k0_pay9 (F := Ideal) x g w n (ix2 r k) * w1 (ix2 k f)) 0 * w2 (ix2 f c) := by
  pointwise [k0_pay11]

/-- The last two quarters on top of the first two. -/
theorem pay1_at (h : FVec Ideal S512x1024 .bf16) (a b : FVec Ideal S512x1024 .f32)
    (w1 w2 w3 w4 : FVec Ideal S1024x1024 .bf16) (r : Fin 512) (c : Fin 1024) :
    k0_pay1 (F := Ideal) h a b w1 w2 w3 w4 (ix2 r c) = a (ix2 r c) + b (ix2 r c)
      + (∑ f : Fin 1024, max (∑ k : Fin 1024, h (ix2 r k) * w1 (ix2 k f)) 0
        * max (∑ k : Fin 1024, h (ix2 r k) * w1 (ix2 k f)) 0 * w2 (ix2 f c))
      + ∑ f : Fin 1024, max (∑ k : Fin 1024, h (ix2 r k) * w3 (ix2 k f)) 0
        * max (∑ k : Fin 1024, h (ix2 r k) * w3 (ix2 k f)) 0 * w4 (ix2 f c) := by
  pointwise [k0_pay1]

/-- The gated branches. -/
theorem pay7_at (p : FVec Ideal S512x512 .f32) (ps : Vec Ideal S1x512 .f32) (yr : Vec Ideal S512x512 .bf16)
    (b0 : Vec Ideal S1x512x1024 .bf16) (ya : Vec Ideal S1x512x512 .bf16) (b1 b2 : Vec Ideal S1x512x1024 .bf16)
    (g0 g1 g2 : Vec Ideal S512x1024 .bf16) (r : Fin 512) (c : Fin 1024) :
    k0_pay7 (F := Ideal) p ps yr b0 ya b1 b2 g0 g1 g2 (ix2 r c)
      = gated ![fun c => g0 (ix2 r c), fun c => g1 (ix2 r c), fun c => g2 (ix2 r c)]
          ![fun k => yr (ix2 r k), fun k => ya (ix3 0 k r), fun k => p (ix2 r k) * ps (ix2 0 k)]
          ![fun k c => b0 (ix3 0 k c), fun k c => b1 (ix3 0 k c), fun k c => b2 (ix3 0 k c)] c := by
  pointwise [k0_pay7]
  unfold gated
  rw [Fin.sum_univ_three]
  simp only [mul_comm (b0 _), mul_comm (b1 _), mul_comm (b2 _), Matrix.cons_val_zero, Matrix.cons_val_one, Matrix.cons_val]

/-! ## The pooling -/

variable (Z : Fin 512 → ℕ → EReal) (T : ℕ) (r : Fin 512)
  (v0 : FVec Ideal S512x512 .f32) (v5 : FVec Ideal S528x512 .f32) (v12 : FVec Ideal S512x128 .f32)

/-- The first group, through its matrix. -/
theorem pay4_at (i : grid0.Coords) (v0 : Vec Ideal S512x512 .f32) (v2 : Vec Ideal S16x512 .f32) (w : Vec Ideal S1x128x128 .bf16)
    (h5 : ∀ (p : Fin 528) c, k0_pay2 (F := Ideal) i v0 v2 (ix2 p c) = Z c (T + p))
    (h0 : ∀ (p : Fin 512) c, v0 (ix2 p c) = Z c (T + (p + 16)))
    (h12 : ∀ k, k0_pay3 (F := Ideal) i (ix2 r k) = (((T + r.val + 1 : ℕ) : ℝ) : EReal)) (c : Fin 128) :
    k0_pay4 (F := Ideal) i v0 v2 w (ix2 r c)
      = ∑ k : Fin 128, pd 2 (Z ⟨k.val, by omega⟩) (T + r) * w (ix3 0 k c) := by
  pointwise [k0_pay4]
  refine Finset.sum_congr rfl fun k _ => congrArg (· * w (ix3 0 k c)) ?_
  simp only [h5, h0, h12]
  exact pd_2 Z _ T r.val r.isLt

/-- The second group. -/
theorem pay5_at (i : grid0.Coords) (v0 : Vec Ideal S512x512 .f32) (v2 : Vec Ideal S16x512 .f32)
    (h5 : ∀ (p : Fin 528) c, k0_pay2 (F := Ideal) i v0 v2 (ix2 p c) = Z c (T + p))
    (h0 : ∀ (p : Fin 512) c, v0 (ix2 p c) = Z c (T + (p + 16)))
    (h12 : ∀ k, k0_pay3 (F := Ideal) i (ix2 r k) = (((T + r.val + 1 : ℕ) : ℝ) : EReal)) (k : Fin 128) :
    k0_pay5 (F := Ideal) i v0 v2 (ix2 r k) = pd 4 (Z ⟨128 + k.val, by omega⟩) (T + r) := by
  pointwise [k0_pay5]
  simp only [h5, h0, h12]
  exact pd_4 Z _ T r.val r.isLt

/-- The position of a row. -/
theorem position (n r : ℕ) (hn : n < 16) (hr : r < 512) :
    (IntOp.addi (IntOp.addi (Scalar.muli (BitVec.ofNat 32 n) 512#32) (BitVec.ofNat 32 r)) 1#32).toInt = ((n * 512 + r + 1 : ℕ) : ℤ) := by
  have e : IntOp.addi (IntOp.addi (Scalar.muli (BitVec.ofNat 32 n) 512#32) (BitVec.ofNat 32 r)) 1#32
      = BitVec.ofNat 32 (n * 512 + r + 1) := by
    simp only [IntOp.addi, Scalar.muli, IntOp.muli, BitVec.ofNat_add, BitVec.ofNat_mul]
  rw [e, BitVec.toInt_ofNat', Int.bmod_eq_of_le (by omega) (by omega)]

/-- The position of a row, as the count's numerator reads it. -/
theorem pay3_at (i : grid0.Coords) (k : Fin 128) :
    k0_pay3 (F := Ideal) i (ix2 r k) = ((((i 1).val * 512 + r.val + 1 : ℕ) : ℝ) : EReal) := by
  pointwise [k0_pay3]
  refine (congrArg (fun z : ℤ => ((z : ℝ) : EReal)) (position (i 1).val r.val (i 1).isLt r.isLt)).trans ?_
  norm_cast

/-- The block under its halo of sixteen rows, zero before the start of a sequence. -/
theorem pay2_at (i : grid0.Coords) (v0 : FVec Ideal S512x512 .f32) (v2 : FVec Ideal S16x512 .f32) (p : Fin 528) (c : Fin 512) :
    k0_pay2 (F := Ideal) i v0 v2 (ix2 p c) = if h : p.val < 16 then (if (i 1).val = 0 then 0 else v2 (ix2 ⟨p.val, h⟩ c))
      else v0 (ix2 ⟨p.val - 16, by omega⟩ c) := by
  pointwise [k0_pay2]
  refine dite_congr rfl (fun h => ?_) fun _ => rfl
  have h1 : ∀ n : Fin 16, Scalar.cmpi CmpIPredicate.eq (BitVec.ofNat 32 n.val) 0#32 = if n.val = 0 then 1#1 else 0#1 := by
    decide
  have h2 : Scalar.cmpi CmpIPredicate.eq (BitVec.ofNat 32 (i 1).val) 0#32 = if (i 1).val = 0 then 1#1 else 0#1 :=
    h1 ⟨(i 1).val, (i 1).isLt⟩
  rw [h2]
  by_cases h3 : (i 1).val = 0
  · simp only [h3, if_true, Scalar.select]; rfl
  · simp only [h3, if_false, Scalar.select]; rfl

end Cert.MergeIdeal.Pay

end
-- ==== Proof.MergeGroups.lean ====
module

public import proofs.«01_k».proof.Proof.Gen.MergeIdeal.Skeleton
public import proofs.«01_k».proof.Proof.MergeSpec
public import Idealize.ShloMosaic.Lib.Pointwise

@[expose] public section

set_option maxRecDepth 16384

noncomputable section

open Idealize.ShloMosaic Idealize.ShloMosaic.TcCoe Idealize.SL.Sem

namespace Cert.MergeIdeal.Pay

open Cert.MergeIdeal Cert.MergeIdeal.Gen Cert.MergeRow

variable (Z : Fin 512 → ℕ → EReal) (T : ℕ) (r : Fin 512)
  (v0 : FVec Ideal S512x512 .f32) (v5 : FVec Ideal S528x512 .f32) (v12 : FVec Ideal S512x128 .f32)

set_option maxHeartbeats 2000000 in
/-- The four groups side by side. -/
theorem pay6_at (v25 : FVec Ideal S512x128 .f32) (v37 : FVec Ideal S512x128 .bf16) (v38 v55 v74 : Vec Ideal S1x128x128 .bf16)
    (h5 : ∀ (p : Fin 528) c, v5 (ix2 p c) = Z c (T + p))
    (h0 : ∀ (p : Fin 512) c, v0 (ix2 p c) = Z c (T + (p + 16)))
    (h12 : ∀ k, v12 (ix2 r k) = (((T + r.val + 1 : ℕ) : ℝ) : EReal)) (c : Fin 512) :
    k0_pay6 (F := Ideal) v0 v5 v12 v25 v37 v38 v55 v74 (ix2 r c) = if h : c.val < 128 then v25 (ix2 r ⟨c.val, h⟩)
      else if h1 : c.val - 128 < 128 then ∑ k : Fin 128, v37 (ix2 r k) * v38 (ix3 0 k ⟨c.val - 128, h1⟩)
      else if h2 : c.val - 128 - 128 < 128 then
         ∑ k : Fin 128, pd 8 (Z ⟨256 + k.val, by omega⟩) (T + r) * v55 (ix3 0 k ⟨c.val - 128 - 128, h2⟩)
       else
         ∑ k : Fin 128, pd 16 (Z ⟨384 + k.val, by omega⟩) (T + r) * v74 (ix3 0 k ⟨c.val - 128 - 128 - 128, by omega⟩) := by
  obtain rfl : v5 = fun i => Z (i 1) (T + (i 0).val) := funext fun i => (congrArg v5 (eq_ix2 i)).trans (h5 (i 0) (i 1))
  obtain rfl : v0 = fun i => Z (i 1) (T + ((i 0).val + 16)) :=
    funext fun i => (congrArg v0 (eq_ix2 i)).trans (h0 (i 0) (i 1))
  pointwise [k0_pay6]
  refine dite_congr rfl (fun _ => rfl) fun _ => dite_congr rfl (fun _ => rfl) fun _ => dite_congr rfl (fun _ => ?_) fun _ => ?_
  · refine Finset.sum_congr rfl fun k _ => congrArg (· * v55 _) ?_
    exact (congrArg (fun y => Ideal.div _ (min y _) - _) (h12 k)).trans (pd_8 Z ⟨256 + k.val, by omega⟩ T r.val r.isLt)
  · refine Finset.sum_congr rfl fun k _ => congrArg (· * v74 _) ?_
    exact (congrArg (fun y => Ideal.div _ (min y _) - _) (h12 k)).trans (pd_16 Z ⟨384 + k.val, by omega⟩ T r.val r.isLt)

end Cert.MergeIdeal.Pay

end
-- ==== Proof.MergeRefSum.lean ====
module

public import proofs.«01_k».proof.Proof.Gen.MergeRefIdeal.Read
public import proofs.«01_k».proof.Proof.MergeSpec
public import Idealize.ShloMosaic.Lib.Pointwise

@[expose] public section

set_option maxRecDepth 16384

noncomputable section

open Idealize.ShloMosaic Idealize.ShloMosaic.TcCoe Idealize.SL.Sem

namespace Cert.MergeRefIdeal.Pay

open Cert.MergeRefIdeal Cert.MergeRefIdeal.Gen Cert.MergeRefIdeal.Read Cert.MergeRow

variable (x0 : FVec Ideal S32768x1024 .f32) (x1 : FVec Ideal S32768x512 .bf16) (x2 : FVec Ideal S4x512x8192 .bf16)
  (x3 : FVec Ideal S32768x4096 .f32) (x4 : FVec Ideal S32768x3072 .bf16) (x5 : FVec Ideal S4x128x128 .f32)
  (x6 : FVec Ideal S512 .f32) (x7 : FVec Ideal S3x512x1024 .f32) (x8 : FVec Ideal S1024x1024 .f32)
  (x9 : FVec Ideal S1024 .f32) (x10 : FVec Ideal S1024x4096 .f32) (x11 : FVec Ideal S4096x1024 .f32)

theorem u_at (b : Fin 4) (t : Fin 8192) (g : Fin 4) (c : Fin 128) :
    val_main_v7 (F := Ideal) x3 (ix4 b t g c) = col x3 b ⟨g.val * 128 + c.val, by omega⟩ (t.val + 16) := by
  pointwise [val_main_v7, val_main_v6, val_main_v5]
  rw [col, dif_pos (by omega)]
  simp only [Nat.add_sub_cancel]

/-- A fold that adds is the start and the sum. -/
theorem fold_add {α : Type} (f : α → EReal) (l : List α) (v : EReal) :
    l.foldl (fun r n => r + f n) v = v + (l.map f).sum := by
  induction l generalizing v with
  | nil => simp
  | cons a l ih => simp only [List.foldl_cons, ih, List.map_cons, List.sum_cons, add_assoc]

theorem eq_time (w : (⟨4, ![1, 8192, 1, 1]⟩ : Shape).Idx) : w = ix4 0 (w 1) 0 0 := by
  funext a
  refine Fin.ext ?_
  match a with
  | 0 => have h : (w 0).val < 1 := (w 0).isLt; show (w 0).val = 0; omega
  | 1 => rfl
  | 2 => have h : (w 2).val < 1 := (w 2).isLt; show (w 2).val = 0; omega
  | 3 => have h : (w 3).val < 1 := (w 3).isLt; show (w 3).val = 0; omega

/-- A sum over the window's indices runs over its time axis. -/
theorem sum_time (G : (⟨4, ![1, 8192, 1, 1]⟩ : Shape).Idx → EReal) : ∑ w, G w = ∑ k : Fin 8192, G (ix4 0 k 0 0) :=
  Fintype.sum_equiv ⟨fun w => w 1, fun k => ix4 0 k 0 0, fun w => (eq_time w).symm, fun k => rfl⟩ _ _
    fun w => congrArg G (eq_time w)

/-- The window of the running sum, from its last index backwards. -/
theorem sum_back (Z : ℕ → EReal) (h0 : ∀ n, n < 16 → Z n = 0) (t : ℕ) (ht : t < 8192) :
    ∑ k : Fin 8192, (if 8191 ≤ t + k.val then Z (t + k.val - 8191 + 16) else 0) = ∑ n ∈ Finset.range (t + 17), Z n := by
  rw [Fin.sum_univ_eq_sum_range (fun k => if 8191 ≤ t + k then Z (t + k - 8191 + 16) else 0) 8192,
    show 8192 = (8191 - t) + (t + 1) by omega, Finset.sum_range_add, show t + 17 = 16 + (t + 1) by omega,
    Finset.sum_range_add _ 16 (t + 1)]
  congr 1
  · refine (Finset.sum_eq_zero fun n hn => ?_).trans (Finset.sum_eq_zero fun n hn => ?_).symm
    · have := Finset.mem_range.mp hn
      rw [if_neg (by omega)]
    · exact h0 n (Finset.mem_range.mp hn)
  · refine Finset.sum_congr rfl fun x hx => ?_
    rw [if_pos (by omega)]
    exact congrArg Z (by omega)

theorem start_zero (i) : val_main_call0_call0_v0 (F := Ideal) i = 0 := by
  pointwise [val_main_call0_call0_v0, val_main_call0_call0_cst]

/-- A window sum at a result index: the start, and the sum over the window of the padded operand. -/
theorem windowSum_at {s t : Shape} (window strides lo hi : Fin s.rank → ℕ) (h : s.ReduceWindows window strides lo hi t)
    (x : s.Idx → EReal) (v : EReal) (j : t.Idx) :
    Ideal.hostReduceWindowAdd window strides lo hi h x v j
      = v + ∑ w : (⟨s.rank, window⟩ : Shape).Idx,
        if hin : ∀ a, lo a ≤ (j (a.cast h.1.symm)).val * strides a + (w a).val
            ∧ (j (a.cast h.1.symm)).val * strides a + (w a).val - lo a < s.size a
          then x (fun a => ⟨(j (a.cast h.1.symm)).val * strides a + (w a).val - lo a, (hin a).2⟩) else v := by
  unfold Ideal.hostReduceWindowAdd Host.reduceWindow
  refine (fold_add _ _ _).trans ?_
  rw [← Fin.sum_univ_def]
  refine congrArg (v + ·) (Eq.trans (Finset.sum_congr rfl fun n _ => ?_) (Equiv.sum_comp (Shape.rowMajor _).symm (fun w : (⟨s.rank, window⟩ : Shape).Idx =>
        if hin : ∀ a, lo a ≤ (j (a.cast h.1.symm)).val * strides a + (w a).val
            ∧ (j (a.cast h.1.symm)).val * strides a + (w a).val - lo a < s.size a
          then x (fun a => ⟨(j (a.cast h.1.symm)).val * strides a + (w a).val - lo a, (hin a).2⟩) else v)))
  by_cases hin : ∀ a, lo a ≤ (j (a.cast h.1.symm)).val * strides a + (Shape.rowMajor ⟨s.rank, window⟩ |>.symm n a).val
      ∧ (j (a.cast h.1.symm)).val * strides a + (Shape.rowMajor ⟨s.rank, window⟩ |>.symm n a).val - lo a < s.size a
  · refine (dif_pos hin).trans ?_
    rw [dif_pos hin]
  · refine (dif_neg hin).trans ?_
    rw [dif_neg hin]

/-- The running sum over time. -/
theorem v8_at (b : Fin 4) (t : Fin 8192) (g : Fin 4) (c : Fin 128) :
    val_main_v8 (F := Ideal) x3 (ix4 b t g c)
      = ∑ n ∈ Finset.range (t.val + 17), col x3 b ⟨g.val * 128 + c.val, by omega⟩ n := by
  unfold val_main_v8
  unfold Host.reduceWindowAdd
  rw [Ideal.hostReduceWindowAdd_def]
  refine (windowSum_at _ _ _ _ _ _ _ _).trans ?_
  rw [start_zero]
  rw [zero_add]
  refine (sum_time _).trans ?_
  refine Eq.trans (Finset.sum_congr rfl fun k _ => ?_) (sum_back _ (col_start x3 b _) t.val t.isLt)
  split
  · next hin =>
    have h1 := (hin 1).1
    have h1' : 8191 ≤ t.val * 1 + k.val := h1
    rw [if_pos (by omega), ← u_at x3 b ⟨t.val + k.val - 8191, by omega⟩ g c]
    refine congrArg _ (funext fun a => Fin.ext ?_)
    match a with
    | 0 => show b.val * 1 + 0 - 0 = b.val; omega
    | 1 => show t.val * 1 + k.val - 8191 = t.val + k.val - 8191; omega
    | 2 => show g.val * 1 + 0 - 0 = g.val; omega
    | 3 => show c.val * 1 + 0 - 0 = c.val; omega
  · next hin =>
    rw [if_neg]
    intro h
    refine hin fun a => ?_
    match a with
    | 0 => show 0 ≤ b.val * 1 + 0 ∧ b.val * 1 + 0 - 0 < 4; omega
    | 1 => show 8191 ≤ t.val * 1 + k.val ∧ t.val * 1 + k.val - 8191 < 8192; omega
    | 2 => show 0 ≤ g.val * 1 + 0 ∧ g.val * 1 + 0 - 0 < 4; omega
    | 3 => show 0 ≤ c.val * 1 + 0 ∧ c.val * 1 + 0 - 0 < 128; omega

end Cert.MergeRefIdeal.Pay

end
-- ==== Proof.MergeRefPool.lean ====
module

public import proofs.«01_k».proof.Proof.Gen.MergeRefIdeal.Read
public import proofs.«01_k».proof.Proof.MergeRefSum
public import Idealize.ShloMosaic.Lib.Pointwise

@[expose] public section

set_option maxRecDepth 16384

noncomputable section

open Idealize.ShloMosaic Idealize.ShloMosaic.TcCoe Idealize.SL.Sem

namespace Cert.MergeRefIdeal.Pay

open Cert.MergeRefIdeal Cert.MergeRefIdeal.Gen Cert.MergeRefIdeal.Read Cert.MergeRow

variable (x0 : FVec Ideal S32768x1024 .f32) (x1 : FVec Ideal S32768x512 .bf16) (x2 : FVec Ideal S4x512x8192 .bf16)
  (x3 : FVec Ideal S32768x4096 .f32) (x4 : FVec Ideal S32768x3072 .bf16) (x5 : FVec Ideal S4x128x128 .f32)
  (x6 : FVec Ideal S512 .f32) (x7 : FVec Ideal S3x512x1024 .f32) (x8 : FVec Ideal S1024x1024 .f32)
  (x9 : FVec Ideal S1024 .f32) (x10 : FVec Ideal S1024x4096 .f32) (x11 : FVec Ideal S4096x1024 .f32)

theorem sitofp_none : (FloatOps.sitofp FTy.f32 0#32 : Ideal .f32) = (0 : EReal) := by
  show ((((0#32).toInt : ℤ) : ℝ) : EReal) = 0
  simp

theorem col0 (c : Fin 128) : (⟨(0 : Fin 4).val * 128 + c.val, by have := c.isLt; simp; omega⟩ : Fin 512) = ⟨c.val, by omega⟩ :=
  Fin.ext (by simp)

theorem pad0_at (b : Fin 4) (t : Fin 8192) (c : Fin 128) :
    val_main_v12 (F := Ideal) x3 (ix3 b t c) = if h : 2 ≤ t.val ∧ t.val - 2 < 8190
      then val_main_v11 (F := Ideal) x3 (ix3 b ⟨t.val - 2, by omega⟩ c) else (FloatOps.sitofp FTy.f32 0#32 : Ideal .f32) := by
  pointwise [val_main_v12, val_main_call1_v0, val_main_c]

theorem lag0_at (b : Fin 4) (t : Fin 8190) (c : Fin 128) :
    val_main_v11 (F := Ideal) x3 (ix3 b t c) = val_main_v8 (F := Ideal) x3 (ix4 b ⟨t.val, by omega⟩ 0 c) := by
  pointwise [val_main_v11, val_main_v10, val_main_v9]

theorem count0_at (b : Fin 4) (t : Fin 8192) (c : Fin 128) :
    val_main_v21 (F := Ideal) (ix3 b t c)
      = (FloatOps.sitofp FTy.f32 (IntOp.minsi (IntOp.addi (BitVec.ofNat 32 t.val) 1#32) 2#32) : Ideal .f32) := by
  pointwise [val_main_v21, val_main_v19, val_main_v18, val_main_v17, val_main_v16, val_main_v15, val_main_v14, val_main_v13, val_main_c_0, val_main_c_1]

/-- Pooling group 0: a window of 2. -/
theorem d0_at (hx : ∀ (r : Fin 32768) (c : Fin 512), ∃ y : ℝ, x3 (ix2 r ⟨3584 + c.val, by omega⟩) = (y : EReal))
    (b : Fin 4) (t : Fin 8192) (c : Fin 128) :
    val_main_v25 (F := Ideal) x3 (ix3 b t c) = pd 2 (col x3 b ⟨c.val, by omega⟩) t.val := by
  pointwise [val_main_v25, val_main_v24, val_main_v23, val_main_v22, val_main_v20, val_main_v10, val_main_v9]
  rw [v8_at, u_at, pad0_at, count0_at, col0]
  refine pd_ref _ (col_finite x3 hx b _) (col_start x3 b _) 2 t.val t.isLt (by omega) _ ?_
  split
  · next h =>
    rw [← col0 c]
    exact (lag0_at x3 _ _ _).trans ((v8_at x3 _ _ _ _).trans (if_pos h.1).symm)
  · next h => rw [if_neg (by have := t.isLt; omega)]; exact sitofp_none

theorem pad1_at (b : Fin 4) (t : Fin 8192) (c : Fin 128) :
    val_main_v29 (F := Ideal) x3 (ix3 b t c) = if h : 4 ≤ t.val ∧ t.val - 4 < 8188
      then val_main_v28 (F := Ideal) x3 (ix3 b ⟨t.val - 4, by omega⟩ c) else (FloatOps.sitofp FTy.f32 0#32 : Ideal .f32) := by
  pointwise [val_main_v29, val_main_call2_v0, val_main_c_2]

theorem lag1_at (b : Fin 4) (t : Fin 8188) (c : Fin 128) :
    val_main_v28 (F := Ideal) x3 (ix3 b t c) = val_main_v8 (F := Ideal) x3 (ix4 b ⟨t.val, by omega⟩ 1 c) := by
  pointwise [val_main_v28, val_main_v27, val_main_v26]

theorem count1_at (b : Fin 4) (t : Fin 8192) (c : Fin 128) :
    val_main_v38 (F := Ideal) (ix3 b t c)
      = (FloatOps.sitofp FTy.f32 (IntOp.minsi (IntOp.addi (BitVec.ofNat 32 t.val) 1#32) 4#32) : Ideal .f32) := by
  pointwise [val_main_v38, val_main_v36, val_main_v35, val_main_v34, val_main_v33, val_main_v32, val_main_v31, val_main_v30, val_main_c_3, val_main_c_4]

/-- Pooling group 1: a window of 4. -/
theorem d1_at (hx : ∀ (r : Fin 32768) (c : Fin 512), ∃ y : ℝ, x3 (ix2 r ⟨3584 + c.val, by omega⟩) = (y : EReal))
    (b : Fin 4) (t : Fin 8192) (c : Fin 128) :
    val_main_v42 (F := Ideal) x3 (ix3 b t c) = pd 4 (col x3 b ⟨1 * 128 + c.val, by omega⟩) t.val := by
  pointwise [val_main_v42, val_main_v41, val_main_v40, val_main_v39, val_main_v37, val_main_v27, val_main_v26]
  rw [v8_at, u_at, pad1_at, count1_at]
  refine pd_ref _ (col_finite x3 hx b _) (col_start x3 b _) 4 t.val t.isLt (by omega) _ ?_
  split
  · next h =>
    exact (lag1_at x3 _ _ _).trans ((v8_at x3 _ _ _ _).trans (if_pos h.1).symm)
  · next h => rw [if_neg (by have := t.isLt; omega)]; exact sitofp_none

theorem pad2_at (b : Fin 4) (t : Fin 8192) (c : Fin 128) :
    val_main_v46 (F := Ideal) x3 (ix3 b t c) = if h : 8 ≤ t.val ∧ t.val - 8 < 8184
      then val_main_v45 (F := Ideal) x3 (ix3 b ⟨t.val - 8, by omega⟩ c) else (FloatOps.sitofp FTy.f32 0#32 : Ideal .f32) := by
  pointwise [val_main_v46, val_main_call3_v0, val_main_c_5]

theorem lag2_at (b : Fin 4) (t : Fin 8184) (c : Fin 128) :
    val_main_v45 (F := Ideal) x3 (ix3 b t c) = val_main_v8 (F := Ideal) x3 (ix4 b ⟨t.val, by omega⟩ 2 c) := by
  pointwise [val_main_v45, val_main_v44, val_main_v43]

theorem count2_at (b : Fin 4) (t : Fin 8192) (c : Fin 128) :
    val_main_v55 (F := Ideal) (ix3 b t c)
      = (FloatOps.sitofp FTy.f32 (IntOp.minsi (IntOp.addi (BitVec.ofNat 32 t.val) 1#32) 8#32) : Ideal .f32) := by
  pointwise [val_main_v55, val_main_v53, val_main_v52, val_main_v51, val_main_v50, val_main_v49, val_main_v48, val_main_v47, val_main_c_6, val_main_c_7]

/-- Pooling group 2: a window of 8. -/
theorem d2_at (hx : ∀ (r : Fin 32768) (c : Fin 512), ∃ y : ℝ, x3 (ix2 r ⟨3584 + c.val, by omega⟩) = (y : EReal))
    (b : Fin 4) (t : Fin 8192) (c : Fin 128) :
    val_main_v59 (F := Ideal) x3 (ix3 b t c) = pd 8 (col x3 b ⟨2 * 128 + c.val, by omega⟩) t.val := by
  pointwise [val_main_v59, val_main_v58, val_main_v57, val_main_v56, val_main_v54, val_main_v44, val_main_v43]
  rw [v8_at, u_at, pad2_at, count2_at]
  refine pd_ref _ (col_finite x3 hx b _) (col_start x3 b _) 8 t.val t.isLt (by omega) _ ?_
  split
  · next h =>
    exact (lag2_at x3 _ _ _).trans ((v8_at x3 _ _ _ _).trans (if_pos h.1).symm)
  · next h => rw [if_neg (by have := t.isLt; omega)]; exact sitofp_none

theorem pad3_at (b : Fin 4) (t : Fin 8192) (c : Fin 128) :
    val_main_v63 (F := Ideal) x3 (ix3 b t c) = if h : 16 ≤ t.val ∧ t.val - 16 < 8176
      then val_main_v62 (F := Ideal) x3 (ix3 b ⟨t.val - 16, by omega⟩ c) else (FloatOps.sitofp FTy.f32 0#32 : Ideal .f32) := by
  pointwise [val_main_v63, val_main_call4_v0, val_main_c_8]

theorem lag3_at (b : Fin 4) (t : Fin 8176) (c : Fin 128) :
    val_main_v62 (F := Ideal) x3 (ix3 b t c) = val_main_v8 (F := Ideal) x3 (ix4 b ⟨t.val, by omega⟩ 3 c) := by
  pointwise [val_main_v62, val_main_v61, val_main_v60]

theorem count3_at (b : Fin 4) (t : Fin 8192) (c : Fin 128) :
    val_main_v72 (F := Ideal) (ix3 b t c)
      = (FloatOps.sitofp FTy.f32 (IntOp.minsi (IntOp.addi (BitVec.ofNat 32 t.val) 1#32) 16#32) : Ideal .f32) := by
  pointwise [val_main_v72, val_main_v70, val_main_v69, val_main_v68, val_main_v67, val_main_v66, val_main_v65, val_main_v64, val_main_c_9, val_main_c_10]

/-- Pooling group 3: a window of 16. -/
theorem d3_at (hx : ∀ (r : Fin 32768) (c : Fin 512), ∃ y : ℝ, x3 (ix2 r ⟨3584 + c.val, by omega⟩) = (y : EReal))
    (b : Fin 4) (t : Fin 8192) (c : Fin 128) :
    val_main_v76 (F := Ideal) x3 (ix3 b t c) = pd 16 (col x3 b ⟨3 * 128 + c.val, by omega⟩) t.val := by
  pointwise [val_main_v76, val_main_v75, val_main_v74, val_main_v73, val_main_v71, val_main_v61, val_main_v60]
  rw [v8_at, u_at, pad3_at, count3_at]
  refine pd_ref _ (col_finite x3 hx b _) (col_start x3 b _) 16 t.val t.isLt (by omega) _ ?_
  split
  · next h =>
    exact (lag3_at x3 _ _ _).trans ((v8_at x3 _ _ _ _).trans (if_pos h.1).symm)
  · next h => rw [if_neg (by have := t.isLt; omega)]; exact sitofp_none

end Cert.MergeRefIdeal.Pay

end
-- ==== Proof.MergeRefVal.lean ====
module

public import proofs.«01_k».proof.Proof.MergeRefPool

@[expose] public section

set_option maxRecDepth 16384

noncomputable section

open Idealize.ShloMosaic Idealize.ShloMosaic.TcCoe Idealize.SL.Sem

/-! The reference of the merge, read down to `Cert.MergeRow.row`. -/

namespace Cert.MergeRefIdeal.Pay

open Cert.MergeRow
open Cert.MergeRefIdeal Cert.MergeRefIdeal.Gen Cert.MergeRefIdeal.Read

variable (x0 : FVec Ideal S32768x1024 .f32) (x1 : FVec Ideal S32768x512 .bf16) (x2 : FVec Ideal S4x512x8192 .bf16)
  (x3 : FVec Ideal S32768x4096 .f32) (x4 : FVec Ideal S32768x3072 .bf16) (x5 : FVec Ideal S4x128x128 .f32)
  (x6 : FVec Ideal S512 .f32) (x7 : FVec Ideal S3x512x1024 .f32) (x8 : FVec Ideal S1024x1024 .f32)
  (x9 : FVec Ideal S1024 .f32) (x10 : FVec Ideal S1024x4096 .f32) (x11 : FVec Ideal S4096x1024 .f32)

theorem out_at (r : Fin 32768) (c : Fin 1024) :
    val_main_v124 (F := Ideal) x0 x1 x2 x3 x4 x5 x6 x7 x8 x9 x10 x11 (ix2 r c)
      = mlp (fun k => val_main_v105 (F := Ideal) x0 x1 x2 x3 x4 x5 x6 x7 x8 (ix3 ⟨r.val / 8192, by omega⟩ ⟨r.val % 8192, by omega⟩ k))
          (fun k => val_main_v118 (F := Ideal) x0 x1 x2 x3 x4 x5 x6 x7 x8 x9 (ix3 ⟨r.val / 8192, by omega⟩ ⟨r.val % 8192, by omega⟩ k))
          (fun k f => x10 (ix2 k f)) (fun f c => x11 (ix2 f c)) c := by
  unfold mlp unit
  pointwise [val_main_v124, val_main_v123, val_main_v122, val_main_v121, val_main_v120, val_main_call5_v0, val_main_call5_cst, val_main_v119]

theorem h_at (b : Fin 4) (t : Fin 8192) (c : Fin 1024) :
    val_main_v118 (F := Ideal) x0 x1 x2 x3 x4 x5 x6 x7 x8 x9 (ix3 b t c)
      = rmsn (fun k => val_main_v105 (F := Ideal) x0 x1 x2 x3 x4 x5 x6 x7 x8 (ix3 b t k)) (fun k => x9 (ix1 k)) c := by
  unfold rmsn
  pointwise [val_main_v118, val_main_v117, val_main_v116, val_main_v115, val_main_v114, val_main_v113, val_main_v112, val_main_v111, val_main_v110, val_main_v109, val_main_v108, val_main_v107, val_main_v106, val_main_cst_13, val_main_cst_14, val_main_cst_15]

theorem x_at (b : Fin 4) (t : Fin 8192) (c : Fin 1024) :
    val_main_v105 (F := Ideal) x0 x1 x2 x3 x4 x5 x6 x7 x8 (ix3 b t c)
      = mid (fun c => x0 (ix2 ⟨b.val * 8192 + t.val, by omega⟩ c))
          (fun k => val_main_v103 (F := Ideal) x1 x2 x3 x4 x5 x6 x7 (ix3 b t k)) (fun k c => x8 (ix2 k c)) c := by
  unfold mid
  pointwise [val_main_v105, val_main_v104, val_main_v0]

theorem g_at (b : Fin 4) (t : Fin 8192) (c : Fin 1024) :
    val_main_v103 (F := Ideal) x1 x2 x3 x4 x5 x6 x7 (ix3 b t c)
      = gated (fun n c => x4 (ix2 ⟨b.val * 8192 + t.val, by omega⟩ ⟨n.val * 1024 + c.val, by omega⟩))
          (fun n k => val_main_v91 (F := Ideal) x1 x2 x3 x5 x6 (ix4 b t n k)) (fun n k c => x7 (ix3 n k c)) c := by
  unfold gated Ideal.logistic
  pointwise [val_main_v103, val_main_cst_12, val_main_v102, val_main_v101, val_main_v100, val_main_cst_11, val_main_v99, val_main_v98, val_main_cst, val_main_v97, val_main_v96, val_main_v95, val_main_v94, val_main_v93, val_main_v92]

theorem ladder_y (b : Fin 4) (t : Fin 8192) (n : Fin 3) (c : Fin 512) :
    val_main_v91 (F := Ideal) x1 x2 x3 x5 x6 (ix4 b t n c)
      = if h : n.val < 1 then x1 (ix2 ⟨b.val * 8192 + t.val, by omega⟩ c)
        else if h : n.val - 1 < 1 then x2 (ix3 b c t) else val_main_v87 (F := Ideal) x3 x5 x6 (ix3 b t c) := by
  pointwise [val_main_v91, val_main_v90, val_main_v89, val_main_v88, val_main_v4, val_main_v3, val_main_v2, val_main_v1]

theorem y_at (b : Fin 4) (t : Fin 8192) (n : Fin 3) (c : Fin 512) :
    val_main_v91 (F := Ideal) x1 x2 x3 x5 x6 (ix4 b t n c)
      = (![fun c => x1 (ix2 ⟨b.val * 8192 + t.val, by omega⟩ c), fun c => x2 (ix3 b c t),
          fun c => val_main_v87 (F := Ideal) x3 x5 x6 (ix3 b t c)] : Fin 3 → Fin 512 → EReal) n c := by
  rw [ladder_y]
  fin_cases n
  · exact dif_pos (by decide)
  · exact (dif_neg (by decide)).trans (dif_pos (by decide))
  · exact (dif_neg (by decide)).trans (dif_neg (by decide))

theorem p_at (b : Fin 4) (t : Fin 8192) (c : Fin 512) :
    val_main_v87 (F := Ideal) x3 x5 x6 (ix3 b t c)
      = (∑ k : Fin 128, x5 (ix3 ⟨c.val / 128, by omega⟩ k ⟨c.val % 128, by omega⟩)
          * val_main_v81 (F := Ideal) x3 (ix4 b t ⟨c.val / 128, by omega⟩ k)) * x6 (ix1 c) := by
  pointwise [val_main_v87, val_main_v86, val_main_v85, val_main_v84, val_main_v83, val_main_v82]

theorem ladder_d (b : Fin 4) (t : Fin 8192) (g : Fin 4) (c : Fin 128) :
    val_main_v81 (F := Ideal) x3 (ix4 b t g c)
      = if h : g.val < 1 then val_main_v25 (F := Ideal) x3 (ix3 b t c)
        else if h : g.val - 1 < 1 then val_main_v42 (F := Ideal) x3 (ix3 b t c)
        else if h : g.val - 1 - 1 < 1 then val_main_v59 (F := Ideal) x3 (ix3 b t c)
        else val_main_v76 (F := Ideal) x3 (ix3 b t c) := by
  pointwise [val_main_v81, val_main_v80, val_main_v79, val_main_v78, val_main_v77]

theorem d_at (hx : ∀ (r : Fin 32768) (c : Fin 512), ∃ y : ℝ, x3 (ix2 r ⟨3584 + c.val, by omega⟩) = (y : EReal))
    (b : Fin 4) (t : Fin 8192) (g : Fin 4) (c : Fin 128) :
    val_main_v81 (F := Ideal) x3 (ix4 b t g c)
      = pd (width g.val) (col x3 b ⟨g.val * 128 + c.val, by omega⟩) t.val := by
  rw [ladder_d]
  fin_cases g
  · exact (dif_pos (by decide)).trans ((d0_at x3 hx b t c).trans (by rw [← col0 c]; rfl))
  · exact (dif_neg (by decide)).trans ((dif_pos (by decide)).trans (d1_at x3 hx b t c))
  · exact (dif_neg (by decide)).trans ((dif_neg (by decide)).trans ((dif_pos (by decide)).trans (d2_at x3 hx b t c)))
  · exact (dif_neg (by decide)).trans ((dif_neg (by decide)).trans ((dif_neg (by decide)).trans (d3_at x3 hx b t c)))

/-- The reference's result at a row and a column. -/
theorem row_at (hx : ∀ (r : Fin 32768) (c : Fin 512), ∃ y : ℝ, x3 (ix2 r ⟨3584 + c.val, by omega⟩) = (y : EReal))
    (r : Fin 32768) (c : Fin 1024) :
    val_main_v124 (F := Ideal) x0 x1 x2 x3 x4 x5 x6 x7 x8 x9 x10 x11 (ix2 r c)
      = row (fun c => x0 (ix2 r c)) (fun k => x1 (ix2 r k))
          (fun k => x2 (ix3 ⟨r.val / 8192, by omega⟩ k ⟨r.val % 8192, by omega⟩))
          (fun n c => x4 (ix2 r ⟨n.val * 1024 + c.val, by omega⟩)) (col x3 ⟨r.val / 8192, by omega⟩) (r.val % 8192)
          (fun g k c => x5 (ix3 g k c)) (fun c => x6 (ix1 c)) (fun n k c => x7 (ix3 n k c)) (fun k c => x8 (ix2 k c))
          (fun c => x9 (ix1 c)) (fun k f => x10 (ix2 k f)) (fun f c => x11 (ix2 f c)) c := by
  have e : (⟨r.val / 8192 * 8192 + r.val % 8192, by omega⟩ : Fin 32768) = r := Fin.ext (by simp only []; omega)
  rw [out_at]
  unfold row
  have hm : (fun k => val_main_v105 (F := Ideal) x0 x1 x2 x3 x4 x5 x6 x7 x8 (ix3 ⟨r.val / 8192, by omega⟩ ⟨r.val % 8192, by omega⟩ k))
      = mid (fun c => x0 (ix2 r c)) (gated (fun n c => x4 (ix2 r ⟨n.val * 1024 + c.val, by omega⟩))
          ![fun k => x1 (ix2 r k), fun k => x2 (ix3 ⟨r.val / 8192, by omega⟩ k ⟨r.val % 8192, by omega⟩),
            MergeRow.pool (col x3 ⟨r.val / 8192, by omega⟩) (r.val % 8192) (fun g k c => x5 (ix3 g k c)) (fun c => x6 (ix1 c))]
          (fun n k c => x7 (ix3 n k c))) (fun k c => x8 (ix2 k c)) := by
    funext k
    rw [x_at]
    have hp : (fun c => val_main_v87 (F := Ideal) x3 x5 x6 (ix3 ⟨r.val / 8192, by omega⟩ ⟨r.val % 8192, by omega⟩ c))
        = MergeRow.pool (col x3 ⟨r.val / 8192, by omega⟩) (r.val % 8192) (fun g k c => x5 (ix3 g k c)) (fun c => x6 (ix1 c)) := by
      funext c
      rw [p_at]
      unfold MergeRow.pool
      exact congrArg (· * x6 (ix1 c)) (Finset.sum_congr rfl fun k _ => congrArg (_ * ·) (d_at x3 hx _ _ _ _))
    have hg : (fun k => val_main_v103 (F := Ideal) x1 x2 x3 x4 x5 x6 x7
          (ix3 ⟨r.val / 8192, by omega⟩ ⟨r.val % 8192, by omega⟩ k))
        = gated (fun n c => x4 (ix2 r ⟨n.val * 1024 + c.val, by omega⟩))
          ![fun k => x1 (ix2 r k), fun k => x2 (ix3 ⟨r.val / 8192, by omega⟩ k ⟨r.val % 8192, by omega⟩),
            MergeRow.pool (col x3 ⟨r.val / 8192, by omega⟩) (r.val % 8192) (fun g k c => x5 (ix3 g k c)) (fun c => x6 (ix1 c))]
          (fun n k c => x7 (ix3 n k c)) := by
      funext k
      rw [g_at]
      have hy : (fun n k => val_main_v91 (F := Ideal) x1 x2 x3 x5 x6
            (ix4 ⟨r.val / 8192, by omega⟩ ⟨r.val % 8192, by omega⟩ n k)) = _ :=
        funext fun n => funext fun k => y_at x1 x2 x3 x5 x6 _ _ n k
      rw [hy]
      simp only [e]
      rw [hp]
    rw [hg]
    simp only [e]
  have hh : (fun k => val_main_v118 (F := Ideal) x0 x1 x2 x3 x4 x5 x6 x7 x8 x9 (ix3 ⟨r.val / 8192, by omega⟩ ⟨r.val % 8192, by omega⟩ k))
      = rmsn (fun k => val_main_v105 (F := Ideal) x0 x1 x2 x3 x4 x5 x6 x7 x8 (ix3 ⟨r.val / 8192, by omega⟩ ⟨r.val % 8192, by omega⟩ k))
          (fun k => x9 (ix1 k)) :=
    funext fun k => h_at x0 x1 x2 x3 x4 x5 x6 x7 x8 x9 _ _ k
  rw [hh, hm]

end Cert.MergeRefIdeal.Pay

end
-- ==== Proof.MergeBlock.lean ====
module

public import proofs.«01_k».proof.Proof.MergePay
public import proofs.«01_k».proof.Proof.MergeGroups
public import proofs.«01_k».proof.Proof.MergeRefVal
public import proofs.«01_k».proof.Proof.Gen.MergeIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! A block of the merge, a row at a time: `Cert.MergeRow.row` of the rows of its operands. -/

namespace Cert.MergeIdeal.Pay

open Cert.MergeIdeal Cert.MergeIdeal.Gen Cert.MergeRow Idealize.ShloMosaic.ValueKit

theorem pw0 (x8 : Vec Ideal S4x128x128 .bf16) (k c : Fin 128) : (View.ld x8 r0_2 : Vec Ideal S1x128x128 .bf16) (ix3 0 k c) = x8 (ix3 0 k c) := by
  refine View.ld_unit_apply_of _ _ _ _ _ _ fun a => ?_
  fin_cases a <;> first | rfl | exact (Nat.zero_add _).symm

theorem pw1 (x8 : Vec Ideal S4x128x128 .bf16) (k c : Fin 128) : (View.ld x8 r0_3 : Vec Ideal S1x128x128 .bf16) (ix3 0 k c) = x8 (ix3 1 k c) := by
  refine View.ld_unit_apply_of _ _ _ _ _ _ fun a => ?_
  fin_cases a <;> first | rfl | exact (Nat.zero_add _).symm

theorem pw2 (x8 : Vec Ideal S4x128x128 .bf16) (k c : Fin 128) : (View.ld x8 r0_4 : Vec Ideal S1x128x128 .bf16) (ix3 0 k c) = x8 (ix3 2 k c) := by
  refine View.ld_unit_apply_of _ _ _ _ _ _ fun a => ?_
  fin_cases a <;> first | rfl | exact (Nat.zero_add _).symm

theorem pw3 (x8 : Vec Ideal S4x128x128 .bf16) (k c : Fin 128) : (View.ld x8 r0_5 : Vec Ideal S1x128x128 .bf16) (ix3 0 k c) = x8 (ix3 3 k c) := by
  refine View.ld_unit_apply_of _ _ _ _ _ _ fun a => ?_
  fin_cases a <;> first | rfl | exact (Nat.zero_add _).symm

theorem wb0 (x10 : Vec Ideal S3x512x1024 .bf16) (k : Fin 512) (c : Fin 1024) :
    (View.ld x10 r0_7 : Vec Ideal S1x512x1024 .bf16) (ix3 0 k c) = x10 (ix3 0 k c) := by
  refine View.ld_unit_apply_of _ _ _ _ _ _ fun a => ?_
  fin_cases a <;> first | rfl | exact (Nat.zero_add _).symm

theorem wb1 (x10 : Vec Ideal S3x512x1024 .bf16) (k : Fin 512) (c : Fin 1024) :
    (View.ld x10 r0_9 : Vec Ideal S1x512x1024 .bf16) (ix3 0 k c) = x10 (ix3 1 k c) := by
  refine View.ld_unit_apply_of _ _ _ _ _ _ fun a => ?_
  fin_cases a <;> first | rfl | exact (Nat.zero_add _).symm

theorem wb2 (x10 : Vec Ideal S3x512x1024 .bf16) (k : Fin 512) (c : Fin 1024) :
    (View.ld x10 r0_10 : Vec Ideal S1x512x1024 .bf16) (ix3 0 k c) = x10 (ix3 2 k c) := by
  refine View.ld_unit_apply_of _ _ _ _ _ _ fun a => ?_
  fin_cases a <;> first | rfl | exact (Nat.zero_add _).symm

theorem wi0 (x13 : Vec Ideal S1024x4096 .bf16) (k f : Fin 1024) :
    (View.ld x13 r0_14 : Vec Ideal S1024x1024 .bf16) (ix2 k f) = x13 (ix2 k ⟨0 * 1024 + f.val, by omega⟩) := by
  refine View.ld_unit_apply_of _ _ _ _ _ _ fun a => ?_
  fin_cases a <;> first | rfl | exact (Nat.zero_add _).symm

theorem wj0 (x14 : Vec Ideal S4096x1024 .bf16) (f c : Fin 1024) :
    (View.ld x14 r0_15 : Vec Ideal S1024x1024 .bf16) (ix2 f c) = x14 (ix2 ⟨0 * 1024 + f.val, by omega⟩ c) := by
  refine View.ld_unit_apply_of _ _ _ _ _ _ fun a => ?_
  fin_cases a <;> first | rfl | exact (Nat.zero_add _).symm

theorem wi1 (x13 : Vec Ideal S1024x4096 .bf16) (k f : Fin 1024) :
    (View.ld x13 r0_16 : Vec Ideal S1024x1024 .bf16) (ix2 k f) = x13 (ix2 k ⟨1 * 1024 + f.val, by omega⟩) := by
  refine View.ld_unit_apply_of _ _ _ _ _ _ fun a => ?_
  fin_cases a <;> first | rfl | exact (Nat.zero_add _).symm

theorem wj1 (x14 : Vec Ideal S4096x1024 .bf16) (f c : Fin 1024) :
    (View.ld x14 r0_17 : Vec Ideal S1024x1024 .bf16) (ix2 f c) = x14 (ix2 ⟨1 * 1024 + f.val, by omega⟩ c) := by
  refine View.ld_unit_apply_of _ _ _ _ _ _ fun a => ?_
  fin_cases a <;> first | rfl | exact (Nat.zero_add _).symm

theorem wi2 (x13 : Vec Ideal S1024x4096 .bf16) (k f : Fin 1024) :
    (View.ld x13 r0_18 : Vec Ideal S1024x1024 .bf16) (ix2 k f) = x13 (ix2 k ⟨2 * 1024 + f.val, by omega⟩) := by
  refine View.ld_unit_apply_of _ _ _ _ _ _ fun a => ?_
  fin_cases a <;> first | rfl | exact (Nat.zero_add _).symm

theorem wj2 (x14 : Vec Ideal S4096x1024 .bf16) (f c : Fin 1024) :
    (View.ld x14 r0_19 : Vec Ideal S1024x1024 .bf16) (ix2 f c) = x14 (ix2 ⟨2 * 1024 + f.val, by omega⟩ c) := by
  refine View.ld_unit_apply_of _ _ _ _ _ _ fun a => ?_
  fin_cases a <;> first | rfl | exact (Nat.zero_add _).symm

theorem wi3 (x13 : Vec Ideal S1024x4096 .bf16) (k f : Fin 1024) :
    (View.ld x13 r0_20 : Vec Ideal S1024x1024 .bf16) (ix2 k f) = x13 (ix2 k ⟨3 * 1024 + f.val, by omega⟩) := by
  refine View.ld_unit_apply_of _ _ _ _ _ _ fun a => ?_
  fin_cases a <;> first | rfl | exact (Nat.zero_add _).symm

theorem wj3 (x14 : Vec Ideal S4096x1024 .bf16) (f c : Fin 1024) :
    (View.ld x14 r0_21 : Vec Ideal S1024x1024 .bf16) (ix2 f c) = x14 (ix2 ⟨3 * 1024 + f.val, by omega⟩ c) := by
  refine View.ld_unit_apply_of _ _ _ _ _ _ fun a => ?_
  fin_cases a <;> first | rfl | exact (Nat.zero_add _).symm

theorem whole_a (x : Vec Ideal S512x512 .f32) : (View.ld x r0_0 : Vec Ideal S512x512 .f32) = x :=
  View.ld_unit_lit _ x (by decide)

theorem whole_b (x : Vec Ideal S512x512 .bf16) : (View.ld x r0_0 : Vec Ideal S512x512 .bf16) = x :=
  View.ld_unit_lit _ x (by decide)

theorem whole_c (x : Vec Ideal S16x512 .f32) : (View.ld x r0_1 : Vec Ideal S16x512 .f32) = x :=
  View.ld_unit_lit _ x (by decide)

theorem whole_d (x : Vec Ideal S1x512 .f32) : (View.ld x r0_6 : Vec Ideal S1x512 .f32) = x :=
  View.ld_unit_lit _ x (by decide)

theorem whole_e (x : Vec Ideal S1x512x512 .bf16) : (View.ld x r0_8 : Vec Ideal S1x512x512 .bf16) = x :=
  View.ld_unit_lit _ x (by decide)

theorem whole_f (x : Vec Ideal S512x1024 .bf16) : (View.ld x r0_11 : Vec Ideal S512x1024 .bf16) = x :=
  View.ld_unit_lit _ x (by decide)

/-- The MLP in its four runs, each over its own tiles of the two matrices. -/
theorem mlp_four (X H : Fin 1024 → EReal) (W1 : Fin 1024 → Fin 4096 → EReal) (W2 : Fin 4096 → Fin 1024 → EReal)
    (a0 a1 a2 a3 b0 b1 b2 b3 : FVec Ideal S1024x1024 .bf16)
    (ha0 : ∀ k f, a0 (ix2 k f) = W1 k ⟨0 * 1024 + f.val, by omega⟩) (hb0 : ∀ f c, b0 (ix2 f c) = W2 ⟨0 * 1024 + f.val, by omega⟩ c)
    (ha1 : ∀ k f, a1 (ix2 k f) = W1 k ⟨1 * 1024 + f.val, by omega⟩) (hb1 : ∀ f c, b1 (ix2 f c) = W2 ⟨1 * 1024 + f.val, by omega⟩ c)
    (ha2 : ∀ k f, a2 (ix2 k f) = W1 k ⟨2 * 1024 + f.val, by omega⟩) (hb2 : ∀ f c, b2 (ix2 f c) = W2 ⟨2 * 1024 + f.val, by omega⟩ c)
    (ha3 : ∀ k f, a3 (ix2 k f) = W1 k ⟨3 * 1024 + f.val, by omega⟩) (hb3 : ∀ f c, b3 (ix2 f c) = W2 ⟨3 * 1024 + f.val, by omega⟩ c) (c : Fin 1024) :
    X c
      + (∑ f : Fin 1024, max (∑ k : Fin 1024, H k * a0 (ix2 k f)) 0
        * max (∑ k : Fin 1024, H k * a0 (ix2 k f)) 0 * b0 (ix2 f c))
      + (∑ f : Fin 1024, max (∑ k : Fin 1024, H k * a1 (ix2 k f)) 0
        * max (∑ k : Fin 1024, H k * a1 (ix2 k f)) 0 * b1 (ix2 f c))
      + (∑ f : Fin 1024, max (∑ k : Fin 1024, H k * a2 (ix2 k f)) 0
        * max (∑ k : Fin 1024, H k * a2 (ix2 k f)) 0 * b2 (ix2 f c))
      + (∑ f : Fin 1024, max (∑ k : Fin 1024, H k * a3 (ix2 k f)) 0
        * max (∑ k : Fin 1024, H k * a3 (ix2 k f)) 0 * b3 (ix2 f c)) = mlp X H W1 W2 c := by
  refine Eq.trans ?_ (mlp_runs X H W1 W2 ![_, _, _, _] c (by intro j; fin_cases j <;> rfl))
  simp only [ha0, hb0, ha1, hb1, ha2, hb2, ha3, hb3]
  rfl

/-- A column of one pooling group through its matrix. -/
theorem group (PW : Fin 4 → Fin 128 → Fin 128 → EReal) (Z : Fin 512 → ℕ → EReal) (t : ℕ) (c : Fin 512) (g : Fin 4)
    (d : Fin 128) (hc : c.val = g.val * 128 + d.val) (S : EReal)
    (hS : S = ∑ k : Fin 128, pd (width g.val) (Z ⟨g.val * 128 + k.val, by omega⟩) t * PW g k d) :
    S = ∑ k : Fin 128, PW ⟨c.val / 128, by omega⟩ k ⟨c.val % 128, by omega⟩
      * pd (width (c.val / 128)) (Z ⟨c.val / 128 * 128 + k.val, by omega⟩) t := by
  have hg : c.val / 128 = g.val := by omega
  have hd : c.val % 128 = d.val := by omega
  rw [hS]
  refine Finset.sum_congr rfl fun k _ => ?_
  simp only [hg, hd]
  exact mul_comm _ _

variable (i : grid0.Coords) (x0 : FVec Ideal S512x1024 .f32) (x1 : FVec Ideal S512x512 .bf16)
  (x2 : FVec Ideal S1x512x512 .bf16) (x3 : FVec Ideal S512x512 .f32) (x4 : FVec Ideal S16x512 .f32)
  (x5 x6 x7 : FVec Ideal S512x1024 .bf16) (x8 : FVec Ideal S4x128x128 .bf16) (x9 : FVec Ideal S1x512 .f32)
  (x10 : FVec Ideal S3x512x1024 .bf16) (x11 : FVec Ideal S1024x1024 .bf16) (x12 : FVec Ideal S1x1024 .f32)
  (x13 : FVec Ideal S1024x4096 .bf16) (x14 : FVec Ideal S4096x1024 .bf16) (Z : Fin 512 → ℕ → EReal)

/-- The block of pool columns under its halo, as one run of times. -/
theorem times (h3 : ∀ (p : Fin 512) c, x3 (ix2 p c) = Z c ((i 1).val * 512 + (p + 16)))
    (h4 : ∀ (p : Fin 16) c, (if (i 1).val = 0 then 0 else x4 (ix2 p c)) = Z c ((i 1).val * 512 + p)) (p : Fin 528) (c : Fin 512) :
    k0_pay2 (F := Ideal) i x3 x4 (ix2 p c) = Z c ((i 1).val * 512 + p) := by
  rw [pay2_at]
  split
  · next h => exact h4 ⟨p.val, h⟩ c
  · next h =>
    refine (h3 ⟨p.val - 16, by omega⟩ c).trans (congrArg (fun n => Z c ((i 1).val * 512 + n)) ?_)
    show p.val - 16 + 16 = p.val
    omega

/-- The four groups of a row. -/
theorem groups (h3 : ∀ (p : Fin 512) c, x3 (ix2 p c) = Z c ((i 1).val * 512 + (p + 16)))
    (h4 : ∀ (p : Fin 16) c, (if (i 1).val = 0 then 0 else x4 (ix2 p c)) = Z c ((i 1).val * 512 + p)) (r : Fin 512) (c : Fin 512) :
    k0_pay6 (F := Ideal) x3 (k0_pay2 i x3 x4) (k0_pay3 (F := Ideal) i) (k0_pay4 i x3 x4 (View.ld x8 r0_2)) (k0_pay5 i x3 x4)
        (View.ld x8 r0_3) (View.ld x8 r0_4) (View.ld x8 r0_5) (ix2 r c)
      = ∑ k : Fin 128, x8 (ix3 ⟨c.val / 128, by omega⟩ k ⟨c.val % 128, by omega⟩)
        * pd (width (c.val / 128)) (Z ⟨c.val / 128 * 128 + k.val, by omega⟩) ((i 1).val * 512 + r.val) := by
  have h5 := times i x3 x4 Z h3 h4
  have h12 := fun k => pay3_at r i k
  rw [pay6_at Z ((i 1).val * 512) r x3 _ _ _ _ _ _ _ h5 h3 h12 c]
  by_cases c0 : c.val < 128
  · rw [dif_pos c0]
    refine group (fun g k c => x8 (ix3 g k c)) Z _ c 0 ⟨c.val, c0⟩ (by simp) _ ?_
    rw [pay4_at Z ((i 1).val * 512) r i x3 x4 _ h5 h3 h12]
    refine Finset.sum_congr rfl fun k _ => ?_
    rw [pw0]
    simp [width]
  · rw [dif_neg c0]
    by_cases c1 : c.val - 128 < 128
    · rw [dif_pos c1]
      refine group (fun g k c => x8 (ix3 g k c)) Z _ c 1 ⟨c.val - 128, c1⟩ (by simp; omega) _ ?_
      refine Finset.sum_congr rfl fun k _ => ?_
      rw [pay5_at Z ((i 1).val * 512) r i x3 x4 h5 h3 h12, pw1]
      simp [width]
    · rw [dif_neg c1]
      by_cases c2 : c.val - 128 - 128 < 128
      · rw [dif_pos c2]
        refine group (fun g k c => x8 (ix3 g k c)) Z _ c 2 ⟨c.val - 128 - 128, c2⟩ (by simp; omega) _ ?_
        refine Finset.sum_congr rfl fun k _ => ?_
        rw [pw2]
        simp [width]
      · rw [dif_neg c2]
        refine group (fun g k c => x8 (ix3 g k c)) Z _ c 3 ⟨c.val - 128 - 128 - 128, by omega⟩ (by simp; omega) _ ?_
        refine Finset.sum_congr rfl fun k _ => ?_
        rw [pw3]
        simp [width]

/-- The gated branches of a row. -/
theorem pay12_at (h3 : ∀ (p : Fin 512) c, x3 (ix2 p c) = Z c ((i 1).val * 512 + (p + 16)))
    (h4 : ∀ (p : Fin 16) c, (if (i 1).val = 0 then 0 else x4 (ix2 p c)) = Z c ((i 1).val * 512 + p)) (r : Fin 512) (c : Fin 1024) :
    (k0_pay12 (F := Ideal) i x0 x1 x2 x3 x4 x5 x6 x7 x8 x9 x10 x11 x12 x13 x14) (ix2 r c)
      = gated ![fun c => x5 (ix2 r c), fun c => x6 (ix2 r c), fun c => x7 (ix2 r c)]
          ![fun k => x1 (ix2 r k), fun k => x2 (ix3 0 k r),
            MergeRow.pool Z ((i 1).val * 512 + r.val) (fun g k c => x8 (ix3 g k c)) (fun c => x9 (ix2 0 c))]
          (fun n k c => x10 (ix3 n k c)) c := by
  unfold k0_pay12
  rw [whole_a x3, whole_c x4, whole_d x9, whole_b x1, whole_e x2, whole_f x5, whole_f x6, whole_f x7, pay7_at]
  have hp : (fun k => k0_pay6 (F := Ideal) x3 (k0_pay2 i x3 x4) (k0_pay3 (F := Ideal) i) (k0_pay4 i x3 x4 (View.ld x8 r0_2))
        (k0_pay5 i x3 x4) (View.ld x8 r0_3) (View.ld x8 r0_4) (View.ld x8 r0_5) (ix2 r k) * x9 (ix2 0 k))
      = MergeRow.pool Z ((i 1).val * 512 + r.val) (fun g k c => x8 (ix3 g k c)) (fun c => x9 (ix2 0 c)) := by
    funext k
    rw [groups i x3 x4 x8 Z h3 h4]
    rfl
  have hw : (![fun k c => (View.ld x10 r0_7 : Vec Ideal S1x512x1024 .bf16) (ix3 0 k c),
        fun k c => (View.ld x10 r0_9 : Vec Ideal S1x512x1024 .bf16) (ix3 0 k c),
        fun k c => (View.ld x10 r0_10 : Vec Ideal S1x512x1024 .bf16) (ix3 0 k c)] : Fin 3 → Fin 512 → Fin 1024 → EReal)
      = fun n k c => x10 (ix3 n k c) := by
    funext n k c
    fin_cases n
    · exact wb0 x10 k c
    · exact wb1 x10 k c
    · exact wb2 x10 k c
  exact congrArg₂ (fun y w => gated _ ![_, _, y] w c) hp hw

/-- What a block's body stores at a row and a column. -/
theorem block_at (h3 : ∀ (p : Fin 512) c, x3 (ix2 p c) = Z c ((i 1).val * 512 + (p + 16)))
    (h4 : ∀ (p : Fin 16) c, (if (i 1).val = 0 then 0 else x4 (ix2 p c)) = Z c ((i 1).val * 512 + p)) (r : Fin 512) (c : Fin 1024) :
    k0_pay1 (k0_pay9 x0 (k0_pay12 (F := Ideal) i x0 x1 x2 x3 x4 x5 x6 x7 x8 x9 x10 x11 x12 x13 x14) x11 x12)
        (k0_pay10 x0 (k0_pay12 (F := Ideal) i x0 x1 x2 x3 x4 x5 x6 x7 x8 x9 x10 x11 x12 x13 x14) x11 x12 (View.ld x13 r0_14) (View.ld x14 r0_15))
        (k0_pay11 x0 (k0_pay12 (F := Ideal) i x0 x1 x2 x3 x4 x5 x6 x7 x8 x9 x10 x11 x12 x13 x14) x11 x12 (View.ld x13 r0_16) (View.ld x14 r0_17))
        (View.ld x13 r0_18) (View.ld x14 r0_19) (View.ld x13 r0_20) (View.ld x14 r0_21) (ix2 r c)
      = row (fun c => x0 (ix2 r c)) (fun k => x1 (ix2 r k)) (fun k => x2 (ix3 0 k r))
          ![fun c => x5 (ix2 r c), fun c => x6 (ix2 r c), fun c => x7 (ix2 r c)] Z ((i 1).val * 512 + r.val)
          (fun g k c => x8 (ix3 g k c)) (fun c => x9 (ix2 0 c)) (fun n k c => x10 (ix3 n k c)) (fun k c => x11 (ix2 k c))
          (fun c => x12 (ix2 0 c)) (fun k f => x13 (ix2 k f)) (fun f c => x14 (ix2 f c)) c := by
  have hM : (fun c => (k0_pay12 (F := Ideal) i x0 x1 x2 x3 x4 x5 x6 x7 x8 x9 x10 x11 x12 x13 x14) (ix2 r c))
      = gated ![fun c => x5 (ix2 r c), fun c => x6 (ix2 r c), fun c => x7 (ix2 r c)]
          ![fun k => x1 (ix2 r k), fun k => x2 (ix3 0 k r),
            MergeRow.pool Z ((i 1).val * 512 + r.val) (fun g k c => x8 (ix3 g k c)) (fun c => x9 (ix2 0 c))]
          (fun n k c => x10 (ix3 n k c)) :=
    funext fun c => pay12_at i x0 x1 x2 x3 x4 x5 x6 x7 x8 x9 x10 x11 x12 x13 x14 Z h3 h4 r c
  rw [pay1_at, pay10_at, pay11_at, pay8_at]
  simp only [pay9_at, hM]
  exact mlp_four _ _ (fun k f => x13 (ix2 k f)) (fun f c => x14 (ix2 f c)) _ _ _ _ _ _ _ _
    (wi0 x13) (wj0 x14) (wi1 x13) (wj1 x14) (wi2 x13) (wj2 x14) (wi3 x13) (wj3 x14) c

end Cert.MergeIdeal.Pay

end
-- ==== Proof.MergeValue.lean ====
module

public import proofs.«01_k».proof.Proof.MergeBlock
public import proofs.«01_k».proof.Proof.MergeRefVal
public import proofs.«01_k».proof.Proof.Gen.MergeIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The merge: the array after the run is the reference's term of the arguments. -/

namespace Cert.MergeIdeal.KernelValue

open Cert.MergeIdeal Cert.MergeIdeal.Gen Cert.MergeRow

theorem ix2_congr {a b : ℕ} {i i' : Fin a} {j j' : Fin b} (hi : i = i') (hj : j = j') : ix2 i j = ix2 i' j' := by
  rw [hi, hj]

/-- Two rows with equal operands. -/
theorem row_congr {X X' : Fin 1024 → EReal} {YR YR' YA YA' : Fin 512 → EReal} {G G' : Fin 3 → Fin 1024 → EReal}
    {Z : Fin 512 → ℕ → EReal} {t : ℕ} {PW PW' : Fin 4 → Fin 128 → Fin 128 → EReal} {PS PS' : Fin 512 → EReal}
    {WB WB' : Fin 3 → Fin 512 → Fin 1024 → EReal} {WO WO' : Fin 1024 → Fin 1024 → EReal} {N N' : Fin 1024 → EReal}
    {W1 W1' : Fin 1024 → Fin 4096 → EReal} {W2 W2' : Fin 4096 → Fin 1024 → EReal} (hX : ∀ c, X c = X' c)
    (hYR : ∀ k, YR k = YR' k) (hYA : ∀ k, YA k = YA' k) (hG : ∀ n c, G n c = G' n c) (hPW : ∀ g k c, PW g k c = PW' g k c)
    (hPS : ∀ c, PS c = PS' c) (hWB : ∀ n k c, WB n k c = WB' n k c) (hWO : ∀ k c, WO k c = WO' k c) (hN : ∀ c, N c = N' c)
    (hW1 : ∀ k f, W1 k f = W1' k f) (hW2 : ∀ f c, W2 f c = W2' f c) (c : Fin 1024) :
    row X YR YA G Z t PW PS WB WO N W1 W2 c = row X' YR' YA' G' Z t PW' PS' WB' WO' N' W1' W2' c := by
  obtain rfl : X = X' := funext hX
  obtain rfl : YR = YR' := funext hYR
  obtain rfl : YA = YA' := funext hYA
  obtain rfl : G = G' := funext fun n => funext (hG n)
  obtain rfl : PW = PW' := funext fun g => funext fun k => funext (hPW g k)
  obtain rfl : PS = PS' := funext hPS
  obtain rfl : WB = WB' := funext fun n => funext fun k => funext (hWB n k)
  obtain rfl : WO = WO' := funext fun k => funext (hWO k)
  obtain rfl : N = N' := funext hN
  obtain rfl : W1 = W1' := funext fun k => funext (hW1 k)
  obtain rfl : W2 = W2' := funext fun f => funext (hW2 f)
  rfl

variable (m : (ℓ : Loc nD τ sig) → Buf (Elt Ideal) ℓ)

/-- Where each window's block lies at a grid point. -/
theorem idx : ∀ t : Fin cfg0.N, win0_0.index t = ![(grid0.coords t 0).val * 16 + (grid0.coords t 1).val, 0]
    ∧ win0_1.index t = ![(grid0.coords t 0).val * 16 + (grid0.coords t 1).val, 0]
    ∧ win0_2.index t = ![(grid0.coords t 0).val, 0, (grid0.coords t 1).val]
    ∧ win0_3.index t = ![(grid0.coords t 0).val * 16 + (grid0.coords t 1).val, 7]
    ∧ win0_4.index t = ![(grid0.coords t 0).val * 512 + (grid0.coords t 1).val * 32 - 1, 7]
    ∧ win0_5.index t = ![(grid0.coords t 0).val * 16 + (grid0.coords t 1).val, 0]
    ∧ win0_6.index t = ![(grid0.coords t 0).val * 16 + (grid0.coords t 1).val, 1]
    ∧ win0_7.index t = ![(grid0.coords t 0).val * 16 + (grid0.coords t 1).val, 2]
    ∧ win0_8.index t = ![0, 0, 0]
    ∧ win0_9.index t = ![0, 0]
    ∧ win0_10.index t = ![0, 0, 0]
    ∧ win0_11.index t = ![0, 0]
    ∧ win0_12.index t = ![0, 0]
    ∧ win0_13.index t = ![0, 0]
    ∧ win0_14.index t = ![0, 0]
    ∧ win0_15.index t = ![(grid0.coords t 0).val * 16 + (grid0.coords t 1).val, 0] :=
  (by decide +kernel : ∀ t : Fin grid0.N, _)

/-- The sequence a grid point works in. -/
abbrev seq_of (t : Fin cfg0.N) : Fin 4 := ⟨(grid0.coords t 0).val, (grid0.coords t 0).isLt⟩

/-- The block of sixteen row blocks within it. -/
theorem blk_lt (t : Fin cfg0.N) : (grid0.coords t 1).val < 16 := (grid0.coords t 1).isLt

theorem seq_lt (t : Fin cfg0.N) : (grid0.coords t 0).val < 4 := (grid0.coords t 0).isLt

/-- The array row of a block row. -/
abbrev row_of (t : Fin cfg0.N) (r : Fin 512) : Fin 32768 :=
  ⟨((grid0.coords t 0).val * 16 + (grid0.coords t 1).val) * 512 + r.val, by have := blk_lt t; have := seq_lt t; omega⟩

theorem b0 (c : Dev nD) (t : Fin cfg0.N) (r : Fin 512) (k : Fin 1024) :
    (iblk m c 0 t : FVec Ideal S512x1024 .f32) (ix2 r k) = (m ((c : Thread nD τ).loc main_arg0) : FVec Ideal S32768x1024 .f32) (ix2 (row_of t r) k) := by
  blk_ext [iblk, V, idx t]

theorem b1 (c : Dev nD) (t : Fin cfg0.N) (r k : Fin 512) :
    (iblk m c 1 t : FVec Ideal S512x512 .bf16) (ix2 r k) = (m ((c : Thread nD τ).loc main_arg1) : FVec Ideal S32768x512 .bf16) (ix2 (row_of t r) k) := by
  blk_ext [iblk, V, idx t]

theorem b2 (c : Dev nD) (t : Fin cfg0.N) (r k : Fin 512) :
    (iblk m c 2 t : FVec Ideal S1x512x512 .bf16) (ix3 0 k r) = (m ((c : Thread nD τ).loc main_arg2) : FVec Ideal S4x512x8192 .bf16) (ix3 (seq_of t) k ⟨(grid0.coords t 1).val * 512 + r.val, by have := blk_lt t; omega⟩) := by
  blk_ext [iblk, V, idx t]

theorem b3 (c : Dev nD) (t : Fin cfg0.N) (r k : Fin 512) :
    (iblk m c 3 t : FVec Ideal S512x512 .f32) (ix2 r k) = (m ((c : Thread nD τ).loc main_arg3) : FVec Ideal S32768x4096 .f32) (ix2 (row_of t r) ⟨3584 + k.val, by omega⟩) := by
  blk_ext [iblk, V, idx t]

theorem b4 (c : Dev nD) (t : Fin cfg0.N) (r : Fin 16) (k : Fin 512) :
    (iblk m c 4 t : FVec Ideal S16x512 .f32) (ix2 r k) = (m ((c : Thread nD τ).loc main_arg3) : FVec Ideal S32768x4096 .f32) (ix2 ⟨((grid0.coords t 0).val * 512 + (grid0.coords t 1).val * 32 - 1) * 16 + r.val, by have := blk_lt t; have := seq_lt t; omega⟩ ⟨3584 + k.val, by omega⟩) := by
  blk_ext [iblk, V, idx t]

theorem b5 (c : Dev nD) (t : Fin cfg0.N) (r : Fin 512) (k : Fin 1024) :
    (iblk m c 5 t : FVec Ideal S512x1024 .bf16) (ix2 r k) = (m ((c : Thread nD τ).loc main_arg4) : FVec Ideal S32768x3072 .bf16) (ix2 (row_of t r) ⟨0 * 1024 + k.val, by omega⟩) := by
  blk_ext [iblk, V, idx t]

theorem b6 (c : Dev nD) (t : Fin cfg0.N) (r : Fin 512) (k : Fin 1024) :
    (iblk m c 6 t : FVec Ideal S512x1024 .bf16) (ix2 r k) = (m ((c : Thread nD τ).loc main_arg4) : FVec Ideal S32768x3072 .bf16) (ix2 (row_of t r) ⟨1 * 1024 + k.val, by omega⟩) := by
  blk_ext [iblk, V, idx t]

theorem b7 (c : Dev nD) (t : Fin cfg0.N) (r : Fin 512) (k : Fin 1024) :
    (iblk m c 7 t : FVec Ideal S512x1024 .bf16) (ix2 r k) = (m ((c : Thread nD τ).loc main_arg4) : FVec Ideal S32768x3072 .bf16) (ix2 (row_of t r) ⟨2 * 1024 + k.val, by omega⟩) := by
  blk_ext [iblk, V, idx t]

theorem b8 (c : Dev nD) (t : Fin cfg0.N) (g : Fin 4) (k n : Fin 128) :
    (iblk m c 8 t : FVec Ideal S4x128x128 .bf16) (ix3 g k n) = (m ((c : Thread nD τ).loc main_arg5) : FVec Ideal S4x128x128 .f32) (ix3 g k n) := by
  blk_ext [iblk, V, idx t]

theorem b9 (c : Dev nD) (t : Fin cfg0.N) (k : Fin 512) :
    (iblk m c 9 t : FVec Ideal S1x512 .f32) (ix2 0 k) = (m ((c : Thread nD τ).loc main_arg6) : FVec Ideal S512 .f32) (ix1 k) := by
  have e : (V m c main_v1 : FVec Ideal S1x512 .f32) = shapeCast _ (m ((c : Thread nD τ).loc main_arg6)) shapeCasts_S512_S1x512 := by
    entry_read
    rfl
  have h : (iblk m c 9 t : FVec Ideal S1x512 .f32) (ix2 0 k) = (V m c main_v1 : FVec Ideal S1x512 .f32) (ix2 0 k) := by
    blk_ext! [iblk, idx t]
  rw [h, e]
  pointwise []

theorem b10 (c : Dev nD) (t : Fin cfg0.N) (n : Fin 3) (k : Fin 512) (j : Fin 1024) :
    (iblk m c 10 t : FVec Ideal S3x512x1024 .bf16) (ix3 n k j) = (m ((c : Thread nD τ).loc main_arg7) : FVec Ideal S3x512x1024 .f32) (ix3 n k j) := by
  blk_ext [iblk, V, idx t]

theorem b11 (c : Dev nD) (t : Fin cfg0.N) (k j : Fin 1024) :
    (iblk m c 11 t : FVec Ideal S1024x1024 .bf16) (ix2 k j) = (m ((c : Thread nD τ).loc main_arg8) : FVec Ideal S1024x1024 .f32) (ix2 k j) := by
  blk_ext [iblk, V, idx t]

theorem b12 (c : Dev nD) (t : Fin cfg0.N) (k : Fin 1024) :
    (iblk m c 12 t : FVec Ideal S1x1024 .f32) (ix2 0 k) = (m ((c : Thread nD τ).loc main_arg9) : FVec Ideal S1024 .f32) (ix1 k) := by
  have e : (V m c main_v4 : FVec Ideal S1x1024 .f32) = shapeCast _ (m ((c : Thread nD τ).loc main_arg9)) shapeCasts_S1024_S1x1024 := by
    entry_read
    rfl
  have h : (iblk m c 12 t : FVec Ideal S1x1024 .f32) (ix2 0 k) = (V m c main_v4 : FVec Ideal S1x1024 .f32) (ix2 0 k) := by
    blk_ext! [iblk, idx t]
  rw [h, e]
  pointwise []

theorem b13 (c : Dev nD) (t : Fin cfg0.N) (k : Fin 1024) (f : Fin 4096) :
    (iblk m c 13 t : FVec Ideal S1024x4096 .bf16) (ix2 k f) = (m ((c : Thread nD τ).loc main_arg10) : FVec Ideal S1024x4096 .f32) (ix2 k f) := by
  blk_ext [iblk, V, idx t]

theorem b14 (c : Dev nD) (t : Fin cfg0.N) (f : Fin 4096) (k : Fin 1024) :
    (iblk m c 14 t : FVec Ideal S4096x1024 .bf16) (ix2 f k) = (m ((c : Thread nD τ).loc main_arg11) : FVec Ideal S4096x1024 .f32) (ix2 f k) := by
  blk_ext [iblk, V, idx t]

variable (hx : ∀ (c : Dev nD) (r : Fin 32768) (k : Fin 512), ∃ y : ℝ,
  (m ((c : Thread nD τ).loc main_arg3) : FVec Ideal S32768x4096 .f32) (ix2 r ⟨3584 + k.val, by omega⟩) = (y : EReal))

/-- The pool columns of a block, as times of its sequence. -/
theorem own (c : Dev nD) (t : Fin cfg0.N) (p k : Fin 512) :
    (iblk m c 3 t : FVec Ideal S512x512 .f32) (ix2 p k) = col (m ((c : Thread nD τ).loc main_arg3)) (seq_of t) k ((grid0.coords t 1).val * 512 + (p.val + 16)) := by
  have hb := blk_lt t
  have hs := seq_lt t
  have hp := p.isLt
  rw [b3]
  unfold col
  rw [dif_pos (by omega)]
  refine congrArg (m ((c : Thread nD τ).loc main_arg3)) (ix2_congr (Fin.ext ?_) rfl)
  simp only []
  omega

/-- The sixteen rows before a block; nothing before the start of a sequence. -/
theorem before (c : Dev nD) (t : Fin cfg0.N) (p : Fin 16) (k : Fin 512) :
    (if (grid0.coords t 1).val = 0 then (0 : EReal) else (iblk m c 4 t : FVec Ideal S16x512 .f32) (ix2 p k))
      = col (m ((c : Thread nD τ).loc main_arg3)) (seq_of t) k ((grid0.coords t 1).val * 512 + p.val) := by
  have hb := blk_lt t
  have hs := seq_lt t
  have hp := p.isLt
  by_cases h : (grid0.coords t 1).val = 0
  · rw [if_pos h]
    exact (col_start _ _ _ _ (by omega)).symm
  · rw [if_neg h, b4]
    unfold col
    rw [dif_pos (by omega)]
    refine congrArg (m ((c : Thread nD τ).loc main_arg3)) (ix2_congr (Fin.ext ?_) rfl)
    simp only []
    omega

include hx in
/-- What a grid point stores is the reference at the place where it lies. -/
theorem point (c : Dev nD) (t : Fin cfg0.N) (r : Fin 512) (k : Fin 1024) :
    k0_pay1 (k0_pay9 (iblk m c 0 t) (k0_pay12 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (iblk m c 11 t) (iblk m c 12 t))
        (k0_pay10 (iblk m c 0 t) (k0_pay12 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (iblk m c 11 t) (iblk m c 12 t) (View.ld (iblk m c 13 t) r0_14) (View.ld (iblk m c 14 t) r0_15))
        (k0_pay11 (iblk m c 0 t) (k0_pay12 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (iblk m c 11 t) (iblk m c 12 t) (View.ld (iblk m c 13 t) r0_16) (View.ld (iblk m c 14 t) r0_17))
        (View.ld (iblk m c 13 t) r0_18) (View.ld (iblk m c 14 t) r0_19) (View.ld (iblk m c 13 t) r0_20) (View.ld (iblk m c 14 t) r0_21) (ix2 r k)
      = Cert.MergeRefIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (row_of t r) k) := by
  have hb := blk_lt t
  have hs := seq_lt t
  have hr := r.isLt
  rw [Cert.MergeRefIdeal.Pay.row_at _ _ _ _ _ _ _ _ _ _ _ _ (hx c)]
  have e1 : (⟨(row_of t r).val / 8192, by omega⟩ : Fin 4) = seq_of t := Fin.ext (by simp only []; omega)
  have e2 : (row_of t r).val % 8192 = (grid0.coords t 1).val * 512 + r.val := by simp only []; omega
  refine (Pay.block_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (col (m ((c : Thread nD τ).loc main_arg3)) (seq_of t)) (own m c t) (before m c t) r k).trans ?_
  simp only [e1, e2]
  exact row_congr (fun j => b0 m c t r j) (fun j => b1 m c t r j) (fun j => b2 m c t r j)
    (fun n j => by
      fin_cases n
      · exact b5 m c t r j
      · exact b6 m c t r j
      · exact b7 m c t r j)
    (fun g j n => b8 m c t g j n) (fun j => b9 m c t j) (fun n j l => b10 m c t n j l) (fun j l => b11 m c t j l)
    (fun j => b12 m c t j) (fun j f => b13 m c t j f) (fun f j => b14 m c t f j) k

include hx in
/-- The result of the merge after the run. -/
theorem final (c : Dev nD) : (dats m 0 c).arrAt 15 (cfgs 0).N = Cert.MergeRefIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t hf y => ?_
  blk_simp
  rw [after0_15]; frame_out
  obtain ⟨r, k, rfl⟩ : ∃ (r : Fin 512) (k : Fin 1024), y = ix2 r k := ⟨y 0, y 1, eq_ix2 y⟩
  refine (point m hx c t r k).trans ?_
  refine congrArg (Cert.MergeRefIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) ?_
  blk_ext [idx t]

end Cert.MergeIdeal.KernelValue

end
-- ==== Proof.MergeFinite.lean ====
module

public import proofs.«01_k».proof.Proof.Gen.Pre_pool_finite
public import Idealize.ShloMosaic.Lib.ReduceAll
public import Idealize.ShloMosaic.Lib.Pointwise

@[expose] public section

set_option maxRecDepth 16384

noncomputable section

open Idealize.ShloMosaic Idealize.ShloMosaic.TcCoe Idealize.SL.Sem

/-! What the precondition gives: the pool columns of the projection are finite. -/

namespace Cert.Pre_pool_finite.Reading

open Cert.Pre_pool_finite Cert.Pre_pool_finite.Gen

/-- The f32 word of infinity. -/
theorem word_inf : Ideal.ofBits FTy.f32 0x7F800000#32 = (⊤ : EReal) := by
  simp [Ideal.ofBits, Ideal.ieee]

/-- An extended real of absolute value below infinity is finite. -/
theorem of_abs_lt (x : EReal) (h : max x (-x) < ⊤) : ∃ y : ℝ, x = (y : EReal) := by
  induction x using EReal.rec with
  | bot => simp at h
  | coe y => exact ⟨y, rfl⟩
  | top => simp at h

theorem ofBool_eq_one (b : Bool) (h : BitVec.ofBool b = 1#1) : b = true := by
  cases b
  · exact absurd h (by decide)
  · rfl

instance : Subsingleton S_.Idx := ⟨fun _ _ => funext fun a => a.elim0⟩

variable (x0 : FVec Ideal S32768x1024 .f32) (x1 : FVec Ideal S32768x512 .bf16) (x2 : FVec Ideal S4x512x8192 .bf16)
  (x3 : FVec Ideal S32768x4096 .f32) (x4 : FVec Ideal S32768x3072 .bf16) (x5 : FVec Ideal S4x128x128 .f32)
  (x6 : FVec Ideal S512 .f32) (x7 : FVec Ideal S3x512x1024 .f32) (x8 : FVec Ideal S1024x1024 .f32)
  (x9 : FVec Ideal S1024 .f32) (x10 : FVec Ideal S1024x4096 .f32) (x11 : FVec Ideal S4096x1024 .f32)

theorem finite (h : fn (F := Ideal) x0 x1 x2 x3 x4 x5 x6 x7 x8 x9 x10 x11 = fun _ => 1#1) (r : Fin 32768) (c : Fin 512) :
    ∃ y : ℝ, x3 (ix2 r ⟨3584 + c.val, by omega⟩) = (y : EReal) := by
  have h1 := Host.reduce_andi_all _ _ _ _ (fun a => a.elim0) (congrFun h fun a => a.elim0) (ix2 r c)
  refine of_abs_lt _ ?_
  rw [← word_inf]
  revert h1
  pointwise []
  exact fun h1 => of_decide_eq_true (ofBool_eq_one _ h1)

end Cert.Pre_pool_finite.Reading

end
-- ==== Proof.InprojBlock.lean ====
module

public import proofs.«01_k».proof.Proof.MergeSpec
public import proofs.«01_k».proof.Proof.Gen.InprojIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! A block of the input projection, read at a row and a column. -/

namespace Cert.InprojIdeal.Pay

open Cert.InprojIdeal Cert.InprojIdeal.Gen Cert.MergeRow

/-- The normed rows of a block. -/
theorem pay5_at (x : FVec Ideal S512x1024 .f32) (n : FVec Ideal S1x1024 .f32) (r : Fin 512) (k : Fin 1024) :
    k0_pay5 (F := Ideal) x n (ix2 r k) = rmsn (fun k => x (ix2 r k)) (fun k => n (ix2 0 k)) k := by
  unfold rmsn
  pointwise [k0_pay5]

variable (x0 : Vec Ideal S512x1024 .f32) (x1 : Vec Ideal S1x1024 .f32) (x2 : Vec Ideal S1024x4096 .bf16) (x3 : Vec Ideal S1024x3072 .bf16)

theorem whole_a (x : Vec Ideal S512x1024 .f32) : (View.ld x r0_0 : Vec Ideal S512x1024 .f32) = x :=
  View.ld_unit_lit _ x (by decide)

theorem whole_b (x : Vec Ideal S1x1024 .f32) : (View.ld x r0_1 : Vec Ideal S1x1024 .f32) = x :=
  View.ld_unit_lit _ x (by decide)

/-- A product with a tile of the weights. -/
theorem pay6_at (x : FVec Ideal S512x1024 .f32) (n : FVec Ideal S1x1024 .f32) (w : FVec Ideal S1024x1024 .bf16) (r : Fin 512) (c : Fin 1024) :
    k0_pay6 (F := Ideal) x n w (ix2 r c) = ∑ k : Fin 1024, k0_pay5 (F := Ideal) x n (ix2 r k) * w (ix2 k c) := by
  pointwise [k0_pay6]

theorem pay7_at (x : FVec Ideal S512x1024 .f32) (n : FVec Ideal S1x1024 .f32) (w : FVec Ideal S1024x1024 .bf16) (r : Fin 512) (c : Fin 1024) :
    k0_pay7 (F := Ideal) x n w (ix2 r c) = ∑ k : Fin 1024, k0_pay5 (F := Ideal) x n (ix2 r k) * w (ix2 k c) := by
  pointwise [k0_pay7]

theorem pay8_at (x : FVec Ideal S512x1024 .f32) (n : FVec Ideal S1x1024 .f32) (w : FVec Ideal S1024x1024 .bf16) (r : Fin 512) (c : Fin 1024) :
    k0_pay8 (F := Ideal) x n w (ix2 r c) = ∑ k : Fin 1024, k0_pay5 (F := Ideal) x n (ix2 r k) * w (ix2 k c) := by
  pointwise [k0_pay8]

theorem pay1_at (h : FVec Ideal S512x1024 .bf16) (w : Vec Ideal S1024x1024 .bf16) (r : Fin 512) (c : Fin 1024) :
    k0_pay1 (F := Ideal) h (k0_pay9 w) (constant S512x1024 .f32 0x00000000#32) (ix2 r c) = ∑ k : Fin 1024, h (ix2 r k) * w (ix2 k c) := by
  pointwise [k0_pay1, k0_pay9]

theorem pay2_at (h : FVec Ideal S512x1024 .bf16) (w : Vec Ideal S1024x1024 .bf16) (r : Fin 512) (c : Fin 1024) :
    k0_pay2 (F := Ideal) h w (ix2 r c) = ∑ k : Fin 1024, h (ix2 r k) * w (ix2 k c) := by
  pointwise [k0_pay2]

theorem pay3_at (h : FVec Ideal S512x1024 .bf16) (w : Vec Ideal S1024x1024 .bf16) (r : Fin 512) (c : Fin 1024) :
    k0_pay3 (F := Ideal) h w (ix2 r c) = ∑ k : Fin 1024, h (ix2 r k) * w (ix2 k c) := by
  pointwise [k0_pay3]

theorem pay4_at (h : FVec Ideal S512x1024 .bf16) (w : Vec Ideal S1024x1024 .bf16) (r : Fin 512) (c : Fin 1024) :
    k0_pay4 (F := Ideal) h w (ix2 r c) = ∑ k : Fin 1024, h (ix2 r k) * w (ix2 k c) := by
  pointwise [k0_pay4]

theorem tile2 (w : Vec Ideal S1024x4096 .bf16) (k c : Fin 1024) (j : Fin 4096) (hj : j.val = 0 + c.val) :
    (View.ld w r0_2 : Vec Ideal S1024x1024 .bf16) (ix2 k c) = w (ix2 k j) := by
  refine View.ld_unit_apply_of _ _ _ _ _ _ fun a => ?_
  fin_cases a
  · exact (Nat.zero_add _).symm
  · exact hj

theorem tile4 (w : Vec Ideal S1024x4096 .bf16) (k c : Fin 1024) (j : Fin 4096) (hj : j.val = 1024 + c.val) :
    (View.ld w r0_4 : Vec Ideal S1024x1024 .bf16) (ix2 k c) = w (ix2 k j) := by
  refine View.ld_unit_apply_of _ _ _ _ _ _ fun a => ?_
  fin_cases a
  · exact (Nat.zero_add _).symm
  · exact hj

theorem tile6 (w : Vec Ideal S1024x4096 .bf16) (k c : Fin 1024) (j : Fin 4096) (hj : j.val = 2048 + c.val) :
    (View.ld w r0_6 : Vec Ideal S1024x1024 .bf16) (ix2 k c) = w (ix2 k j) := by
  refine View.ld_unit_apply_of _ _ _ _ _ _ fun a => ?_
  fin_cases a
  · exact (Nat.zero_add _).symm
  · exact hj

theorem tile8 (w : Vec Ideal S1024x4096 .bf16) (k c : Fin 1024) (j : Fin 4096) (hj : j.val = 3072 + c.val) :
    (View.ld w r0_8 : Vec Ideal S1024x1024 .bf16) (ix2 k c) = w (ix2 k j) := by
  refine View.ld_unit_apply_of _ _ _ _ _ _ fun a => ?_
  fin_cases a
  · exact (Nat.zero_add _).symm
  · exact hj

theorem tile10 (w : Vec Ideal S1024x3072 .bf16) (k c : Fin 1024) (j : Fin 3072) (hj : j.val = 0 + c.val) :
    (View.ld w r0_10 : Vec Ideal S1024x1024 .bf16) (ix2 k c) = w (ix2 k j) := by
  refine View.ld_unit_apply_of _ _ _ _ _ _ fun a => ?_
  fin_cases a
  · exact (Nat.zero_add _).symm
  · exact hj

theorem tile12 (w : Vec Ideal S1024x3072 .bf16) (k c : Fin 1024) (j : Fin 3072) (hj : j.val = 1024 + c.val) :
    (View.ld w r0_12 : Vec Ideal S1024x1024 .bf16) (ix2 k c) = w (ix2 k j) := by
  refine View.ld_unit_apply_of _ _ _ _ _ _ fun a => ?_
  fin_cases a
  · exact (Nat.zero_add _).symm
  · exact hj

theorem tile14 (w : Vec Ideal S1024x3072 .bf16) (k c : Fin 1024) (j : Fin 3072) (hj : j.val = 2048 + c.val) :
    (View.ld w r0_14 : Vec Ideal S1024x1024 .bf16) (ix2 k c) = w (ix2 k j) := by
  refine View.ld_unit_apply_of _ _ _ _ _ _ fun a => ?_
  fin_cases a
  · exact (Nat.zero_add _).symm
  · exact hj

/-- What the body leaves in the mixers' buffer. -/
theorem out4_at (y : S512x4096.Idx) :
    out0_4 (F := Ideal) x0 x1 x2 x3 y = ∑ k : Fin 1024, k0_pay5 (F := Ideal) x0 x1 (ix2 (y 0) k) * x2 (ix2 k (y 1)) := by
  canon_tiles x h
  · refine (congrArg (k0_pay1 (F := Ideal) (k0_pay10 x0 x1 x2 x3) (k0_pay9 (View.ld x2 r0_8)) (constant S512x1024 .f32 0x00000000#32)) (eq_ix2 x)).trans ((pay1_at (k0_pay10 x0 x1 x2 x3) (View.ld x2 r0_8) (x 0) (x 1)).trans ?_)
    refine Finset.sum_congr rfl fun k _ => ?_
    unfold k0_pay10
    rw [whole_a, whole_b]
    exact congrArg₂ (fun a b => k0_pay5 (F := Ideal) x0 x1 (ix2 a k) * b) (Fin.ext h0.symm) (tile8 x2 k (x 1) (y 1) (h1))
  · refine (congrArg (k0_pay8 (F := Ideal) (View.ld x0 r0_0) (View.ld x1 r0_1) (View.ld x2 r0_6)) (eq_ix2 x)).trans ((pay8_at (View.ld x0 r0_0) (View.ld x1 r0_1) (View.ld x2 r0_6) (x 0) (x 1)).trans ?_)
    refine Finset.sum_congr rfl fun k _ => ?_
    rw [whole_a, whole_b]
    exact congrArg₂ (fun a b => k0_pay5 (F := Ideal) x0 x1 (ix2 a k) * b) (Fin.ext h0.symm) (tile6 x2 k (x 1) (y 1) (h1))
  · refine (congrArg (k0_pay7 (F := Ideal) (View.ld x0 r0_0) (View.ld x1 r0_1) (View.ld x2 r0_4)) (eq_ix2 x)).trans ((pay7_at (View.ld x0 r0_0) (View.ld x1 r0_1) (View.ld x2 r0_4) (x 0) (x 1)).trans ?_)
    refine Finset.sum_congr rfl fun k _ => ?_
    rw [whole_a, whole_b]
    exact congrArg₂ (fun a b => k0_pay5 (F := Ideal) x0 x1 (ix2 a k) * b) (Fin.ext h0.symm) (tile4 x2 k (x 1) (y 1) (h1))
  · refine (congrArg (k0_pay6 (F := Ideal) (View.ld x0 r0_0) (View.ld x1 r0_1) (View.ld x2 r0_2)) (eq_ix2 x)).trans ((pay6_at (View.ld x0 r0_0) (View.ld x1 r0_1) (View.ld x2 r0_2) (x 0) (x 1)).trans ?_)
    refine Finset.sum_congr rfl fun k _ => ?_
    rw [whole_a, whole_b]
    exact congrArg₂ (fun a b => k0_pay5 (F := Ideal) x0 x1 (ix2 a k) * b) (Fin.ext h0.symm) (tile2 x2 k (x 1) (y 1) (h1.trans (Nat.zero_add _).symm))

/-- What the body leaves in the gates' buffer. -/
theorem out5_at (y : S512x3072.Idx) :
    out0_5 (F := Ideal) x0 x1 x2 x3 y = ∑ k : Fin 1024, k0_pay5 (F := Ideal) x0 x1 (ix2 (y 0) k) * x3 (ix2 k (y 1)) := by
  canon_tiles x h
  · refine (congrArg (k0_pay4 (F := Ideal) (k0_pay10 x0 x1 x2 x3) (View.ld x3 r0_14)) (eq_ix2 x)).trans ((pay4_at (k0_pay10 x0 x1 x2 x3) (View.ld x3 r0_14) (x 0) (x 1)).trans ?_)
    refine Finset.sum_congr rfl fun k _ => ?_
    unfold k0_pay10
    rw [whole_a, whole_b]
    exact congrArg₂ (fun a b => k0_pay5 (F := Ideal) x0 x1 (ix2 a k) * b) (Fin.ext h0.symm) (tile14 x3 k (x 1) (y 1) (h1))
  · refine (congrArg (k0_pay3 (F := Ideal) (k0_pay10 x0 x1 x2 x3) (View.ld x3 r0_12)) (eq_ix2 x)).trans ((pay3_at (k0_pay10 x0 x1 x2 x3) (View.ld x3 r0_12) (x 0) (x 1)).trans ?_)
    refine Finset.sum_congr rfl fun k _ => ?_
    unfold k0_pay10
    rw [whole_a, whole_b]
    exact congrArg₂ (fun a b => k0_pay5 (F := Ideal) x0 x1 (ix2 a k) * b) (Fin.ext h0.symm) (tile12 x3 k (x 1) (y 1) (h1))
  · refine (congrArg (k0_pay2 (F := Ideal) (k0_pay10 x0 x1 x2 x3) (View.ld x3 r0_10)) (eq_ix2 x)).trans ((pay2_at (k0_pay10 x0 x1 x2 x3) (View.ld x3 r0_10) (x 0) (x 1)).trans ?_)
    refine Finset.sum_congr rfl fun k _ => ?_
    unfold k0_pay10
    rw [whole_a, whole_b]
    exact congrArg₂ (fun a b => k0_pay5 (F := Ideal) x0 x1 (ix2 a k) * b) (Fin.ext h0.symm) (tile10 x3 k (x 1) (y 1) (h1.trans (Nat.zero_add _).symm))

end Cert.InprojIdeal.Pay

end
-- ==== Proof.InprojRefVal.lean ====
module

public import proofs.«01_k».proof.Proof.MergeSpec
public import proofs.«01_k».proof.Proof.Gen.InprojRefIdeal.Read
public import Idealize.ShloMosaic.Lib.Pointwise

@[expose] public section

set_option maxRecDepth 16384

noncomputable section

open Idealize.ShloMosaic Idealize.ShloMosaic.TcCoe Idealize.SL.Sem

/-! The reference of the input projection, read at a row and a column. -/

namespace Cert.InprojRefIdeal.Pay

open Cert.InprojRefIdeal Cert.InprojRefIdeal.Gen Cert.InprojRefIdeal.Read Cert.MergeRow

variable (x0 : FVec Ideal S4x8192x1024 .f32) (x1 : FVec Ideal S1024 .f32) (x2 : FVec Ideal S1024x6912 .f32)

/-- The normed row. -/
theorem h_at (b : Fin 4) (t : Fin 8192) (k : Fin 1024) :
    val_main_v12 (F := Ideal) x0 x1 (ix3 b t k) = rmsn (fun k => x0 (ix3 b t k)) (fun k => x1 (ix1 k)) k := by
  unfold rmsn
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The projection. -/
theorem proj_at (b : Fin 4) (t : Fin 8192) (c : Fin 6912) :
    val_main_v13 (F := Ideal) x0 x1 x2 (ix3 b t c)
      = ∑ k : Fin 1024, rmsn (fun k => x0 (ix3 b t k)) (fun k => x1 (ix1 k)) k * x2 (ix2 k c) := by
  pointwise [val_main_v13]
  exact Finset.sum_congr rfl fun k _ => congrArg (· * x2 (ix2 k c)) (h_at x0 x1 b t k)

/-- The mixers' columns, with the empty columns in their midst. -/
theorem mix_at (r : Fin 32768) (c : Fin 4096) :
    val_main_v19 (F := Ideal) x0 x1 x2 (ix2 r c)
      = if h : c.val < 1792 then val_main_v13 (F := Ideal) x0 x1 x2 (ix3 ⟨r.val / 8192, by omega⟩ ⟨r.val % 8192, by omega⟩ ⟨c.val, by omega⟩)
        else if h : c.val - 1792 < 256 then 0
        else val_main_v13 (F := Ideal) x0 x1 x2 (ix3 ⟨r.val / 8192, by omega⟩ ⟨r.val % 8192, by omega⟩ ⟨1792 + (c.val - 1792 - 256), by omega⟩) := by
  pointwise [val_main_v19, val_main_v18, val_main_v17, val_main_cst_2, val_main_v15, val_main_v14]

/-- The gates' columns. -/
theorem gates_at (r : Fin 32768) (c : Fin 3072) :
    val_main_v21 (F := Ideal) x0 x1 x2 (ix2 r c)
      = val_main_v13 (F := Ideal) x0 x1 x2 (ix3 ⟨r.val / 8192, by omega⟩ ⟨r.val % 8192, by omega⟩ ⟨3840 + c.val, by omega⟩) := by
  pointwise [val_main_v21, val_main_v20, val_main_v16]

end Cert.InprojRefIdeal.Pay

end
-- ==== Proof.InprojValue.lean ====
module

public import proofs.«01_k».proof.Proof.MergeSpec
public import proofs.«01_k».proof.Proof.InprojBlock
public import proofs.«01_k».proof.Proof.InprojRefVal

@[expose] public section

set_option maxRecDepth 16384

noncomputable section

open Idealize.ShloMosaic.Pipeline (Dat)
open Idealize.ShloMosaic Idealize.ShloMosaic.TcCoe Idealize.SL.Sem

/-! The input projection: both arrays after the run are the reference's terms of the arguments. -/

namespace Cert.InprojIdeal.KernelValue

open Cert.InprojIdeal Cert.InprojIdeal.Gen Cert.MergeRow

variable (m : (ℓ : Loc nD τ sig) → Buf (Elt Ideal) ℓ)

/-- Where each window's block lies at a grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0] :=
  (by decide +kernel : ∀ t : Fin grid0.N, _)

theorem t_lt (t : Fin cfg0.N) : t.val < 64 := lt_of_lt_of_eq t.isLt N_0

/-- The array row of a block row. -/
abbrev row_of (t : Fin cfg0.N) (r : Fin 512) : Fin 32768 := ⟨t.val * 512 + r.val, by have := t_lt t; omega⟩

/-- The input read row by row. -/
theorem rows_at (x : FVec Ideal S4x8192x1024 .f32) (r : Fin 32768) (k : Fin 1024) :
    (shapeCast _ x shapeCasts_S4x8192x1024_S32768x1024 : FVec Ideal S32768x1024 .f32) (ix2 r k)
      = x (ix3 ⟨r.val / 8192, by omega⟩ ⟨r.val % 8192, by omega⟩ k) := by
  pointwise []

/-- The mixers' weights as the host lays them out: the empty columns in their midst. -/
abbrev laid (w : FVec Ideal S1024x6912 .f32) : FVec Ideal S1024x4096 .bf16 :=
  (truncf .bf16 (concatenate S1024x4096 1
      [⟨S1024x1792, (extractStridedSlice S1024x1792 ![0, 0] w slices_S1024x6912_S1024x1792_0_0 : FVec Ideal S1024x1792 .f32)⟩,
       ⟨S1024x256, (broadcastInDim S1024x256 ![] bcast_S_S1024x256 (constant S_ .f32 0x00000000#32 : FVec Ideal S_ .f32) : FVec Ideal S1024x256 .f32)⟩,
       ⟨S1024x2048, (extractStridedSlice S1024x2048 ![0, 1792] w slices_S1024x6912_S1024x2048_0_1792 : FVec Ideal S1024x2048 .f32)⟩]
      concatenates_S1024x1792_S1024x256_S1024x2048_S1024x4096_d1 : FVec Ideal S1024x4096 .f32) bitsLt_bf16_f32 : FVec Ideal S1024x4096 .bf16)

theorem laid_at (w : FVec Ideal S1024x6912 .f32) (k : Fin 1024) (j : Fin 4096) :
    laid w (ix2 k j)
      = if h : j.val < 1792 then w (ix2 k ⟨j.val, by omega⟩) else if h : j.val - 1792 < 256 then (0 : EReal)
        else w (ix2 k ⟨1792 + (j.val - 1792 - 256), by omega⟩) := by
  pointwise [laid]

/-- The gates' weights as the host cuts them out. -/
abbrev gatew (w : FVec Ideal S1024x6912 .f32) : FVec Ideal S1024x3072 .bf16 :=
  (truncf .bf16 (extractStridedSlice S1024x3072 ![0, 3840] w slices_S1024x6912_S1024x3072_0_3840 : FVec Ideal S1024x3072 .f32) bitsLt_bf16_f32 : FVec Ideal S1024x3072 .bf16)

theorem gatew_at (w : FVec Ideal S1024x6912 .f32) (k : Fin 1024) (j : Fin 3072) :
    gatew w (ix2 k j) = w (ix2 k ⟨3840 + j.val, by omega⟩) := by
  pointwise [gatew]

/-- A row of the input's block. -/
theorem b0 (c : Dev nD) (t : Fin cfg0.N) (r : Fin 512) (k : Fin 1024) :
    (iblk m c 0 t : FVec Ideal S512x1024 .f32) (ix2 r k)
      = (m ((c : Thread nD τ).loc main_arg0) : FVec Ideal S4x8192x1024 .f32) (ix3 ⟨(row_of t r).val / 8192, by omega⟩ ⟨(row_of t r).val % 8192, by omega⟩ k) := by
  have e : (V m c main_v0 : FVec Ideal S32768x1024 .f32) = shapeCast _ (m ((c : Thread nD τ).loc main_arg0) : FVec Ideal S4x8192x1024 .f32) shapeCasts_S4x8192x1024_S32768x1024 := by
    entry_read
    rfl
  have h : (iblk m c 0 t : FVec Ideal S512x1024 .f32) (ix2 r k) = (V m c main_v0 : FVec Ideal S32768x1024 .f32) (ix2 (row_of t r) k) := by
    blk_ext! [iblk, idx t]
  exact (h.trans (congrFun e _)).trans (rows_at _ (row_of t r) k)

/-- The norm's weights. -/
theorem b1 (c : Dev nD) (t : Fin cfg0.N) (k : Fin 1024) :
    (iblk m c 1 t : FVec Ideal S1x1024 .f32) (ix2 0 k) = (m ((c : Thread nD τ).loc main_arg1) : FVec Ideal S1024 .f32) (ix1 k) := by
  have e : (V m c main_v6 : FVec Ideal S1x1024 .f32) = shapeCast _ (m ((c : Thread nD τ).loc main_arg1) : FVec Ideal S1024 .f32) shapeCasts_S1024_S1x1024 := by
    entry_read
    rfl
  have h : (iblk m c 1 t : FVec Ideal S1x1024 .f32) (ix2 0 k) = (V m c main_v6 : FVec Ideal S1x1024 .f32) (ix2 0 k) := by
    blk_ext! [iblk, idx t]
  rw [h, e]
  pointwise []

/-- The mixers' weights. -/
theorem b2 (c : Dev nD) (t : Fin cfg0.N) (k : Fin 1024) (j : Fin 4096) :
    (iblk m c 2 t : FVec Ideal S1024x4096 .bf16) (ix2 k j) = laid (m ((c : Thread nD τ).loc main_arg2) : FVec Ideal S1024x6912 .f32) (ix2 k j) := by
  have e : (V m c main_v5 : FVec Ideal S1024x4096 .bf16) = laid (m ((c : Thread nD τ).loc main_arg2) : FVec Ideal S1024x6912 .f32) := by
    unfold V hostOps0
    after_results <;> rfl
  have h : (iblk m c 2 t : FVec Ideal S1024x4096 .bf16) (ix2 k j) = (V m c main_v5 : FVec Ideal S1024x4096 .bf16) (ix2 k j) := by
    blk_ext! [iblk, idx t]
  exact h.trans (congrFun e _)

/-- The gates' weights. -/
theorem b3 (c : Dev nD) (t : Fin cfg0.N) (k : Fin 1024) (j : Fin 3072) :
    (iblk m c 3 t : FVec Ideal S1024x3072 .bf16) (ix2 k j) = gatew (m ((c : Thread nD τ).loc main_arg2) : FVec Ideal S1024x6912 .f32) (ix2 k j) := by
  have e : (V m c main_v8 : FVec Ideal S1024x3072 .bf16) = gatew (m ((c : Thread nD τ).loc main_arg2) : FVec Ideal S1024x6912 .f32) := by
    entry_read
    rfl
  have h : (iblk m c 3 t : FVec Ideal S1024x3072 .bf16) (ix2 k j) = (V m c main_v8 : FVec Ideal S1024x3072 .bf16) (ix2 k j) := by
    blk_ext! [iblk, idx t]
  exact h.trans (congrFun e _)

/-- A normed entry of a block is the reference's. -/
theorem normed (c : Dev nD) (t : Fin cfg0.N) (r : Fin 512) (k : Fin 1024) :
    k0_pay5 (F := Ideal) (iblk m c 0 t) (iblk m c 1 t) (ix2 r k)
      = rmsn (fun k => (m ((c : Thread nD τ).loc main_arg0) : FVec Ideal S4x8192x1024 .f32) (ix3 ⟨(row_of t r).val / 8192, by omega⟩ ⟨(row_of t r).val % 8192, by omega⟩ k))
          (fun k => (m ((c : Thread nD τ).loc main_arg1) : FVec Ideal S1024 .f32) (ix1 k)) k := by
  rw [Pay.pay5_at]
  exact congrArg₂ (fun x n => rmsn x n k) (funext fun k => b0 m c t r k) (funext fun k => b1 m c t k)

/-- What a grid point leaves of the mixers' columns. -/
theorem point4 (c : Dev nD) (t : Fin cfg0.N) (r : Fin 512) (j : Fin 4096) :
    out0_4 (F := Ideal) (iblk m c 0 t) (iblk m c 1 t) (iblk m c 2 t) (iblk m c 3 t) (ix2 r j)
      = Cert.InprojRefIdeal.Read.val_main_v19 (F := Ideal) (m ((c : Thread nD τ).loc main_arg0)) (m ((c : Thread nD τ).loc main_arg1)) (m ((c : Thread nD τ).loc main_arg2)) (ix2 (row_of t r) j) := by
  rw [Pay.out4_at, Cert.InprojRefIdeal.Pay.mix_at]
  by_cases h1 : j.val < 1792
  · rw [dif_pos h1, Cert.InprojRefIdeal.Pay.proj_at]
    refine Finset.sum_congr rfl fun k _ => ?_
    exact congrArg₂ (· * ·) (normed m c t r k) (((b2 m c t k j).trans (laid_at _ k j)).trans (dif_pos h1))
  · rw [dif_neg h1]
    by_cases h2 : j.val - 1792 < 256
    · rw [dif_pos h2]
      refine Finset.sum_eq_zero fun k _ => ?_
      exact (congrArg (_ * ·) (((b2 m c t k j).trans (laid_at _ k j)).trans ((dif_neg h1).trans (dif_pos h2)))).trans (mul_zero _)
    · rw [dif_neg h2, Cert.InprojRefIdeal.Pay.proj_at]
      refine Finset.sum_congr rfl fun k _ => ?_
      exact congrArg₂ (· * ·) (normed m c t r k) (((b2 m c t k j).trans (laid_at _ k j)).trans ((dif_neg h1).trans (dif_neg h2)))

/-- What a grid point leaves of the gates' columns. -/
theorem point5 (c : Dev nD) (t : Fin cfg0.N) (r : Fin 512) (j : Fin 3072) :
    out0_5 (F := Ideal) (iblk m c 0 t) (iblk m c 1 t) (iblk m c 2 t) (iblk m c 3 t) (ix2 r j)
      = Cert.InprojRefIdeal.Read.val_main_v21 (F := Ideal) (m ((c : Thread nD τ).loc main_arg0)) (m ((c : Thread nD τ).loc main_arg1)) (m ((c : Thread nD τ).loc main_arg2)) (ix2 (row_of t r) j) := by
  rw [Pay.out5_at, Cert.InprojRefIdeal.Pay.gates_at, Cert.InprojRefIdeal.Pay.proj_at]
  refine Finset.sum_congr rfl fun k _ => ?_
  exact congrArg₂ (· * ·) (normed m c t r k) ((b3 m c t k j).trans (gatew_at _ k j))

theorem final4 (c : Dev nD) : (dats m 0 c).arrAt 4 (cfgs 0).N = Cert.InprojRefIdeal.Read.val_main_v19 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨r, k, rfl⟩ : ∃ (r : Fin 512) (k : Fin 4096), y = ix2 r k := ⟨y 0, y 1, eq_ix2 y⟩
  refine (point4 m c t r k).trans ?_
  refine congrArg (Cert.InprojRefIdeal.Read.val_main_v19 (F := Ideal) (m ((c : Thread nD τ).loc main_arg0)) (m ((c : Thread nD τ).loc main_arg1)) (m ((c : Thread nD τ).loc main_arg2))) ?_
  blk_ext [idx t]

theorem final5 (c : Dev nD) : (dats m 0 c).arrAt 5 (cfgs 0).N = Cert.InprojRefIdeal.Read.val_main_v21 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨r, k, rfl⟩ : ∃ (r : Fin 512) (k : Fin 3072), y = ix2 r k := ⟨y 0, y 1, eq_ix2 y⟩
  refine (point5 m c t r k).trans ?_
  refine congrArg (Cert.InprojRefIdeal.Read.val_main_v21 (F := Ideal) (m ((c : Thread nD τ).loc main_arg0)) (m ((c : Thread nD τ).loc main_arg1)) (m ((c : Thread nD τ).loc main_arg2))) ?_
  blk_ext [idx t]

end Cert.InprojIdeal.KernelValue

end
-- ==== Proof.lean ====
module

public import proofs.«01_k».proof.Defs
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Rwkv
public import proofs.«01_k».proof.Proof.Gen.Rwkv.Skeleton
public import proofs.«01_k».proof.Proof.Gen.Rwkv.Launch
public import proofs.«01_k».proof.Proof.Gen.Rwkv.Points
public import proofs.«01_k».proof.Proof.Gen.Rwkv.Frame
public import proofs.«01_k».proof.Proof.Gen.RwkvIdeal
public import proofs.«01_k».proof.Proof.Gen.RwkvIdeal.Skeleton
public import proofs.«01_k».proof.Proof.Gen.RwkvIdeal.Launch
public import proofs.«01_k».proof.Proof.Gen.RwkvIdeal.Points
public import proofs.«01_k».proof.Proof.Gen.RwkvIdeal.Frame
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.AttnFrame
public import proofs.«01_k».proof.Proof.AttnIdealFrame
public import proofs.«01_k».proof.Proof.Gen.Pre_pool_finite
public import proofs.«01_k».proof.Proof.Gen.InprojIdeal.Value
public import proofs.«01_k».proof.Proof.Gen.MergeIdeal.Value
public import proofs.«01_k».proof.Proof.Gen.InprojRefIdeal.Run
public import proofs.«01_k».proof.Proof.Gen.InprojRefIdeal.Read
public import proofs.«01_k».proof.Proof.Gen.MergeRefIdeal.Run
public import proofs.«01_k».proof.Proof.Gen.MergeRefIdeal.Read
public import proofs.«01_k».proof.Proof.MergeValue
public import proofs.«01_k».proof.Proof.MergeFinite
public import proofs.«01_k».proof.Proof.InprojValue
public import Idealize.ShloMosaic.Lib.Claim
public import Idealize.ShloMosaic.Adequacy
public import Idealize.ShloMosaic.Init

@[expose] public section

noncomputable section

namespace Cert.Proof

open Idealize.ShloMosaic Idealize.SL.Sem Cert.Inproj

/-- The input projection's host reference runs and leaves its arguments; it declares no semaphore. -/
theorem quiescent_InprojRefIdeal : Cert.quiescent_InprojRefIdeal := by
  intro m g _
  refine (θ_run _ _ _).mono (fun r h => ⟨fun c => (h c).2.2, ?_⟩) (Cert.InprojRefIdeal.Value.run m g)
  funext ⟨_, s⟩
  cases s <;> exact Fin.elim0 (by assumption)

/-- The merge's host reference runs and leaves its arguments; it declares no semaphore. -/
theorem quiescent_MergeRefIdeal : Cert.quiescent_MergeRefIdeal := by
  intro m g _
  refine (θ_run _ _ _).mono (fun r h => ⟨fun c => (h c).2, ?_⟩) (Cert.MergeRefIdeal.Value.run m g)
  funext ⟨_, s⟩
  cases s <;> exact Fin.elim0 (by assumption)

/-- Both arrays of the input projection are the reference's. -/
theorem algebraic_Inproj : Cert.algebraic_InprojIdeal_InprojRefIdeal := by
  pair_intro
  · run_from Cert.InprojIdeal.Gen.run_main m g
  · run_from Cert.InprojRefIdeal.Value.run m' g'
    all_goals obtain ⟨h0, h1, h2⟩ := hagree c
    · rw [Cert.InprojIdeal.KernelValue.final4 m c, ← h0, ← h1, ← h2]
      exact Cert.InprojRefIdeal.Read.val_main_v19_eq _ _ _
    · rw [Cert.InprojIdeal.KernelValue.final5 m c, ← h0, ← h1, ← h2]
      exact Cert.InprojRefIdeal.Read.val_main_v21_eq _ _ _

set_option maxHeartbeats 1600000 in
/-- The merged rows are the reference's, where the pooled columns are finite. -/
theorem algebraic_Merge : Cert.algebraic_MergeIdeal_MergeRefIdeal_pre_pool_finite := by
  pair_intro
  · run_from Cert.MergeIdeal.Gen.run_main m g
  · run_from Cert.MergeRefIdeal.Value.run m' g'
    obtain ⟨h0, h1, h2, h3, h4, h5, h6, h7, h8, h9, h10, h11⟩ := hagree c
    rw [Cert.MergeIdeal.KernelValue.final m
      (fun c r k => Cert.Pre_pool_finite.Reading.finite _ _ _ _ _ _ _ _ _ _ _ _ (hpre c) r k) c,
      ← h0, ← h1, ← h2, ← h3, ← h4, ← h5, ← h6, ← h7, ← h8, ← h9, ← h10, ← h11]
    exact Cert.MergeRefIdeal.Read.val_main_v124_eq m' c

theorem claim : Cert.Claim := ⟨Cert.Inproj.Gen.facts, Cert.InprojIdeal.Gen.facts, Cert.InprojRefIdeal.Gen.facts, Cert.Merge.Gen.facts, Cert.MergeIdeal.Gen.facts, Cert.MergeRefIdeal.Gen.facts, Cert.Rwkv.Gen.facts, Cert.RwkvIdeal.Gen.facts, Cert.Attn.Gen.facts, Cert.AttnIdeal.Gen.facts, Cert.Pre_pool_finite.Gen.facts,
  fun m ρ _ => Cert.Inproj.Gen.frame m ρ, fun m ρ _ => Cert.InprojIdeal.Gen.frame m ρ, quiescent_InprojRefIdeal,
  fun m ρ _ => Cert.Merge.Gen.frame m ρ, fun m ρ _ => Cert.MergeIdeal.Gen.frame m ρ, fun m ρ _ => Cert.MergeIdeal.Gen.frame m ρ,
  quiescent_MergeRefIdeal, fun m ρ _ => quiescent_MergeRefIdeal m ρ trivial,
  fun m ρ _ => Cert.Rwkv.Gen.frame m ρ, fun m ρ _ => Cert.RwkvIdeal.Gen.frame m ρ,
  fun m ρ _ => Cert.Proof.AttnFrame.frame m ρ, fun m ρ _ => Cert.Proof.AttnIdealFrame.frame m ρ,
  trivial, algebraic_Inproj, trivial, algebraic_Merge, trivial, trivial⟩

end Cert.Proof

end
